-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_n" .f32 0x38D1B717#32 ((10000⁻¹ : ℝ) : EReal)

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_inputs_finite : Cert.Pre_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
-- ==== Pre_inputs_finite.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S1 : Shape := ⟨1, ![1]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part2 {F : FTy → Type} [FloatOps F] (main_arg5 : FVec F S_ .f32) (main_arg6 : FVec F S128x128 .f32) (main_v26 : IVec S_ 1) (main_v32 : IVec S_ 1) : IVec S_ 1 :=
  let main_v33 : IVec S_ 1 := andi main_v26 main_v32
  let main_cst_13 : FVec F S_ .f32 := constant S_ .f32 0x7F800000#32
  let main_v34 : IVec S_ 1 := cmpf .olt main_arg5 main_cst_13
  let main_cst_14 : FVec F S_ .f32 := constant S_ .f32 0xFF800000#32
  let main_v35 : IVec S_ 1 := cmpf .ogt main_arg5 main_cst_14
  let main_v36 : IVec S_ 1 := andi main_v34 main_v35
  let main_c_15 : IVec S_ 1 := constantI S_ 1 1#1
  let main_v37 : IVec S_ 1 := (fun x v => Host.reduce IntOp.andi x v reducesTo_S_S_d h_S_) main_v36 main_c_15
  let main_v38 : IVec S_ 1 := andi main_v33 main_v37
  let main_cst_16 : FVec F S_ .f32 := constant S_ .f32 0x7F800000#32
  let main_v39 : FVec F S128x128 .f32 := broadcastInDim S128x128 ![] bcast_S_S128x128 main_cst_16
  let main_v40 : IVec S128x128 1 := cmpf .olt main_arg6 main_v39
  let main_cst_17 : FVec F S_ .f32 := constant S_ .f32 0xFF800000#32
  let main_v41 : FVec F S128x128 .f32 := broadcastInDim S128x128 ![] bcast_S_S128x128 main_cst_17
  let main_v42 : IVec S128x128 1 := cmpf .ogt main_arg6 main_v41
  let main_v43 : IVec S128x128 1 := andi main_v40 main_v42
  let main_c_18 : IVec S_ 1 := constantI S_ 1 1#1
  let main_v44 : IVec S_ 1 := (fun x v => Host.reduce IntOp.andi x v reducesTo_S128x128_S_d0_1 h_S_) main_v43 main_c_18
  let main_v45 : IVec S_ 1 := andi main_v38 main_v44
  main_v45

def fn_part1 {F : FTy → Type} [FloatOps F] (main_arg2 : FVec F S1x10000x10000 .f32) (main_arg3 : FVec F S128x128 .f32) (main_arg4 : FVec F S128 .f32) (main_arg5 : FVec F S_ .f32) (main_arg6 : FVec F S128x128 .f32) (main_v12 : IVec S_ 1) (main_v14 : IVec S1x10000x10000 1) (main_v15 : FVec F S1x10000x10000 .f32) : IVec S_ 1 :=
  let main_v16 : IVec S1x10000x10000 1 := cmpf .ogt main_arg2 main_v15
  let main_v17 : IVec S1x10000x10000 1 := andi main_v14 main_v16
  let main_c_6 : IVec S_ 1 := constantI S_ 1 1#1
  let main_v18 : IVec S_ 1 := (fun x v => Host.reduce IntOp.andi x v reducesTo_S1x10000x10000_S_d0_1_2 h_S_) main_v17 main_c_6
  let main_v19 : IVec S_ 1 := andi main_v12 main_v18
  let main_cst_7 : FVec F S_ .f32 := constant S_ .f32 0x7F800000#32
  let main_v20 : FVec F S128x128 .f32 := broadcastInDim S128x128 ![] bcast_S_S128x128 main_cst_7
  let main_v21 : IVec S128x128 1 := cmpf .olt main_arg3 main_v20
  let main_cst_8 : FVec F S_ .f32 := constant S_ .f32 0xFF800000#32
  let main_v22 : FVec F S128x128 .f32 := broadcastInDim S128x128 ![] bcast_S_S128x128 main_cst_8
  let main_v23 : IVec S128x128 1 := cmpf .ogt main_arg3 main_v22
  let main_v24 : IVec S128x128 1 := andi main_v21 main_v23
  let main_c_9 : IVec S_ 1 := constantI S_ 1 1#1
  let main_v25 : IVec S_ 1 := (fun x v => Host.reduce IntOp.andi x v reducesTo_S128x128_S_d0_1 h_S_) main_v24 main_c_9
  let main_v26 : IVec S_ 1 := andi main_v19 main_v25
  let main_cst_10 : FVec F S_ .f32 := constant S_ .f32 0x7F800000#32
  let main_v27 : FVec F S128 .f32 := broadcastInDim S128 ![] bcast_S_S128 main_cst_10
  let main_v28 : IVec S128 1 := cmpf .olt main_arg4 main_v27
  let main_cst_11 : FVec F S_ .f32 := constant S_ .f32 0xFF800000#32
  let main_v29 : FVec F S128 .f32 := broadcastInDim S128 ![] bcast_S_S128 main_cst_11
  let main_v30 : IVec S128 1 := cmpf .ogt main_arg4 main_v29
  let main_v31 : IVec S128 1 := andi main_v28 main_v30
  let main_c_12 : IVec S_ 1 := constantI S_ 1 1#1
  let main_v32 : IVec S_ 1 := (fun x v => Host.reduce IntOp.andi x v reducesTo_S128_S_d0 h_S_) main_v31 main_c_12
  fn_part2 (F := F) main_arg5 main_arg6 main_v26 main_v32

def fn {F : FTy → Type} [FloatOps F] (main_arg0 : FVec F S1x10000x128 .f32) (main_arg1 : FVec F S1x10000x128 .f32) (main_arg2 : FVec F S1x10000x10000 .f32) (main_arg3 : FVec F S128x128 .f32) (main_arg4 : FVec F S128 .f32) (main_arg5 : FVec F S_ .f32) (main_arg6 : FVec F S128x128 .f32) (main_arg7 : FVec F S1 .f32) : IVec S_ 1 :=
  let main_cst : FVec F S_ .f32 := constant S_ .f32 0x7F800000#32
  let main_v0 : FVec F S1x10000x128 .f32 := broadcastInDim S1x10000x128 ![] bcast_S_S1x10000x128 main_cst
  let main_v1 : IVec S1x10000x128 1 := cmpf .olt main_arg0 main_v0
  let main_cst_0 : FVec F S_ .f32 := constant S_ .f32 0xFF800000#32
  let main_v2 : FVec F S1x10000x128 .f32 := broadcastInDim S1x10000x128 ![] bcast_S_S1x10000x128 main_cst_0
  let main_v3 : IVec S1x10000x128 1 := cmpf .ogt main_arg0 main_v2
  let main_v4 : IVec S1x10000x128 1 := andi main_v1 main_v3
  let main_c : IVec S_ 1 := constantI S_ 1 1#1
  let main_v5 : IVec S_ 1 := (fun x v => Host.reduce IntOp.andi x v reducesTo_S1x10000x128_S_d0_1_2 h_S_) main_v4 main_c
  let main_cst_1 : FVec F S_ .f32 := constant S_ .f32 0x7F800000#32
  let main_v6 : FVec F S1x10000x128 .f32 := broadcastInDim S1x10000x128 ![] bcast_S_S1x10000x128 main_cst_1
  let main_v7 : IVec S1x10000x128 1 := cmpf .olt main_arg1 main_v6
  let main_cst_2 : FVec F S_ .f32 := constant S_ .f32 0xFF800000#32
  let main_v8 : FVec F S1x10000x128 .f32 := broadcastInDim S1x10000x128 ![] bcast_S_S1x10000x128 main_cst_2
  let main_v9 : IVec S1x10000x128 1 := cmpf .ogt main_arg1 main_v8
  let main_v10 : IVec S1x10000x128 1 := andi main_v7 main_v9
  let main_c_3 : IVec S_ 1 := constantI S_ 1 1#1
  let main_v11 : IVec S_ 1 := (fun x v => Host.reduce IntOp.andi x v reducesTo_S1x10000x128_S_d0_1_2 h_S_) main_v10 main_c_3
  let main_v12 : IVec S_ 1 := andi main_v5 main_v11
  let main_cst_4 : FVec F S_ .f32 := constant S_ .f32 0x7F800000#32
  let main_v13 : FVec F S1x10000x10000 .f32 := broadcastInDim S1x10000x10000 ![] bcast_S_S1x10000x10000 main_cst_4
  let main_v14 : IVec S1x10000x10000 1 := cmpf .olt main_arg2 main_v13
  let main_cst_5 : FVec F S_ .f32 := constant S_ .f32 0xFF800000#32
  let main_v15 : FVec F S1x10000x10000 .f32 := broadcastInDim S1x10000x10000 ![] bcast_S_S1x10000x10000 main_cst_5
  fn_part1 (F := F) main_arg2 main_arg3 main_arg4 main_arg5 main_arg6 main_v12 main_v14 main_v15
-- ==== Kernel.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S1 : Shape := ⟨1, ![1]⟩
abbrev S10000x128 : Shape := ⟨2, ![10000, 128]⟩
abbrev S2x5000x10000 : Shape := ⟨3, ![2, 5000, 10000]⟩
abbrev S256 : Shape := ⟨1, ![256]⟩
abbrev S1x256 : Shape := ⟨2, ![1, 256]⟩
abbrev S1x1 : Shape := ⟨2, ![1, 1]⟩
abbrev S5000x1 : Shape := ⟨2, ![5000, 1]⟩
abbrev S1x200x10000 : Shape := ⟨3, ![1, 200, 10000]⟩
abbrev S10000x256 : Shape := ⟨2, ![10000, 256]⟩
abbrev S5000x128 : Shape := ⟨2, ![5000, 128]⟩
abbrev S1x128 : Shape := ⟨2, ![1, 128]⟩
abbrev S200x10000 : Shape := ⟨2, ![200, 10000]⟩
abbrev S200x256 : Shape := ⟨2, ![200, 256]⟩
abbrev S200x128 : Shape := ⟨2, ![200, 128]⟩
abbrev S128x1 : Shape := ⟨2, ![128, 1]⟩
abbrev S1x5000 : Shape := ⟨2, ![1, 5000]⟩
abbrev S1x20000 : Shape := ⟨2, ![1, 20000]⟩

abbrev nBuf : Space → Nat
  | .hbm => 25
  | .vmem => 21
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S128x128, .f32⟩
  | .hbm, ⟨7, _⟩ => ⟨S1, .f32⟩
  | .hbm, ⟨8, _⟩ => ⟨S10000x128, .f32⟩
  | .hbm, ⟨9, _⟩ => ⟨S10000x128, .f32⟩
  | .hbm, ⟨10, _⟩ => ⟨S2x5000x10000, .f32⟩
  | .hbm, ⟨11, _⟩ => ⟨S256, .f32⟩
  | .hbm, ⟨12, _⟩ => ⟨S1x256, .f32⟩
  | .hbm, ⟨13, _⟩ => ⟨S1x1, .f32⟩
  | .hbm, ⟨14, _⟩ => ⟨S1x1, .f32⟩
  | .hbm, ⟨15, _⟩ => ⟨S128x128, .f32⟩
  | .hbm, ⟨16, _⟩ => ⟨S5000x1, .f32⟩
  | .hbm, ⟨17, _⟩ => ⟨S5000x1, .f32⟩
  | .hbm, ⟨18, _⟩ => ⟨S5000x1, .f32⟩
  | .hbm, ⟨19, _⟩ => ⟨S5000x1, .f32⟩
  | .hbm, ⟨20, _⟩ => ⟨S1x5000, .f32⟩
  | .hbm, ⟨21, _⟩ => ⟨S1x5000, .f32⟩
  | .hbm, ⟨22, _⟩ => ⟨S1x5000, .f32⟩
  | .hbm, ⟨23, _⟩ => ⟨S1x5000, .f32⟩
  | .hbm, ⟨24, _⟩ => ⟨S1x20000, .f32⟩
  | .local _ .vmem, ⟨0, _⟩ => ⟨S1x200x10000, .f32⟩
  | .local _ .vmem, ⟨1, _⟩ => ⟨S1x200x10000, .f32⟩
  | .local _ .vmem, ⟨2, _⟩ => ⟨S1x200x10000, .f32⟩
  | .local _ .vmem, ⟨3, _⟩ => ⟨S1x200x10000, .f32⟩
  | .local _ .vmem, ⟨4, _⟩ => ⟨S10000x128, .f32⟩
  | .local _ .vmem, ⟨5, _⟩ => ⟨S10000x128, .f32⟩
  | .local _ .vmem, ⟨6, _⟩ => ⟨S128x128, .f32⟩
  | .local _ .vmem, ⟨7, _⟩ => ⟨S1x256, .f32⟩
  | .local _ .vmem, ⟨8, _⟩ => ⟨S1x1, .f32⟩
  | .local _ .vmem, ⟨9, _⟩ => ⟨S128x128, .f32⟩
  | .local _ .vmem, ⟨10, _⟩ => ⟨S1x1, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S10000x256, .bf16⟩
  | .local _ .vmem, ⟨16, _⟩ => ⟨S5000x128, .bf16⟩
  | .local _ .vmem, ⟨17, _⟩ => ⟨S5000x128, .bf16⟩
  | .local _ .vmem, ⟨18, _⟩ => ⟨S5000x128, .bf16⟩
  | .local _ .vmem, ⟨19, _⟩ => ⟨S5000x128, .bf16⟩
  | .local _ .vmem, ⟨20, _⟩ => ⟨S1x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c200_i32 : BitVec 32 := 200#32
  let v8 : BitVec 32 := Scalar.muli arg0 c200_i32
  let v23 : Index := Scalar.indexCast v8
  let c0_10 : Index := 0#32
  ![v23.toNat, 0]
def k0_cond2 (i : grid0.Coords) : BitVec 1 :=
  let arg0 : BitVec 32 := BitVec.ofNat 32 (i 0).val
  let c24_i32 : BitVec 32 := 24#32
  let v65 : BitVec 1 := Scalar.cmpi .eq arg0 c24_i32
  let v66 : BitVec 32 := Scalar.extui v65
  let c0_i32_25 : BitVec 32 := 0#32
  let v67 : BitVec 1 := Scalar.cmpi .ne v66 c0_i32_25
  v67

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10000x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5000x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5000x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5000x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5000x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "inv_n" => some ((10000⁻¹ : ℝ) : EReal)
  | _ => none
-- ==== ReferenceIdeal.lean ====
abbrev S1x10000x128 : Shape := ⟨3, ![1, 10000, 128]⟩
abbrev S1x10000x10000 : Shape := ⟨3, ![1, 10000, 10000]⟩
abbrev S128x128 : Shape := ⟨2, ![128, 128]⟩
abbrev S128 : Shape := ⟨1, ![128]⟩
abbrev S_ : Shape := ⟨0, ![]⟩
abbrev S1 : Shape := ⟨1, ![1]⟩
abbrev S1x1x128 : Shape := ⟨3, ![1, 1, 128]⟩
abbrev S1x128 : Shape := ⟨2, ![1, 128]⟩
abbrev S128x1x10000 : Shape := ⟨3, ![128, 1, 10000]⟩
abbrev S1x10000 : Shape := ⟨2, ![1, 10000]⟩
abbrev S1x1 : Shape := ⟨2, ![1, 1]⟩
abbrev S1x20000 : Shape := ⟨2, ![1, 20000]⟩

abbrev nBuf : Space → Nat
  | .hbm => 56
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S128x128, .f32⟩
  | .hbm, ⟨4, _⟩ => ⟨S128, .f32⟩
  | .hbm, ⟨5, _⟩ => ⟨S_, .f32⟩
  | .hbm, ⟨6, _⟩ => ⟨S128x128, .f32⟩
  | .hbm, ⟨7, _⟩ => ⟨S1, .f32⟩
  | .hbm, ⟨8, _⟩ => ⟨S1x10000x128, .f32⟩
  | .hbm, ⟨9, _⟩ => ⟨S1x10000x128, .f32⟩
  | .hbm, ⟨10, _⟩ => ⟨S1x1x128, .f32⟩
  | .hbm, ⟨11, _⟩ => ⟨S1x10000x128, .f32⟩
  | .hbm, ⟨12, _⟩ => ⟨S1x10000x128, .f32⟩
  | .hbm, ⟨13, _⟩ => ⟨S_, .f32⟩
  | .hbm, ⟨14, _⟩ => ⟨S1x10000x128, .f32⟩
  | .hbm, ⟨15, _⟩ => ⟨S1x10000x128, .i1⟩
  | .hbm, ⟨16, _⟩ => ⟨S1x10000x128, .f32⟩
  | .hbm, ⟨17, _⟩ => ⟨S1x10000x128, .f32⟩
  | .hbm, ⟨18, _⟩ => ⟨S1x10000x128, .f32⟩
  | .hbm, ⟨19, _⟩ => ⟨S_, .f32⟩
  | .hbm, ⟨20, _⟩ => ⟨S1x128, .f32⟩
  | .hbm, ⟨21, _⟩ => ⟨S_, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S_, .f32⟩
  | .hbm, ⟨30, _⟩ => ⟨S1x128, .f32⟩
  | .hbm, ⟨31, _⟩ => ⟨S1x128, .f32⟩
  | .hbm, ⟨32, _⟩ => ⟨S1x10000x128, .f32⟩
  | .hbm, ⟨33, _⟩ => ⟨S1x10000x128, .f32⟩
  | .hbm, ⟨34, _⟩ => ⟨S1x1x128, .f32⟩
  | .hbm, ⟨35, _⟩ => ⟨S1x10000x128, .f32⟩
  | .hbm, ⟨36, _⟩ => ⟨S1x10000x128, .f32⟩
  | .hbm, ⟨37, _⟩ => ⟨S_, .f32⟩
  | .hbm, ⟨38, _⟩ => ⟨S1x10000x128, .f32⟩
  | .hbm, ⟨39, _⟩ => ⟨S1x10000x128, .i1⟩
  | .hbm, ⟨40, _⟩ => ⟨S1x10000x128, .f32⟩
  | .hbm, ⟨41, _⟩ => ⟨S1x10000x128, .f32⟩
  | .hbm, ⟨42, _⟩ => ⟨S1x10000x128, .f32⟩
  | .hbm, ⟨43, _⟩ => ⟨S1x1x128, .f32⟩
  | .hbm, ⟨44, _⟩ => ⟨S1x10000x128, .f32⟩
  | .hbm, ⟨45, _⟩ => ⟨S128x1x10000, .f32⟩
  | .hbm, ⟨46, _⟩ => ⟨S1x10000, .f32⟩
  | .hbm, ⟨47, _⟩ => ⟨S1x1, .f32⟩
  | .hbm, ⟨48, _⟩ => ⟨S1x10000, .f32⟩
  | .hbm, ⟨49, _⟩ => ⟨S1x10000, .f32⟩
  | .hbm, ⟨50, _⟩ => ⟨S128x1x10000, .f32⟩
  | .hbm, ⟨51, _⟩ => ⟨S1x10000, .f32⟩
  | .hbm, ⟨52, _⟩ => ⟨S1x1, .f32⟩
  | .hbm, ⟨53, _⟩ => ⟨S1x10000, .f32⟩
  | .hbm, ⟨54, _⟩ => ⟨S1x10000, .f32⟩
  | .hbm, ⟨55, _⟩ => ⟨S1x20000, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Proof.RunBase.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffix
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first branch's condition: the grid coordinate is zero. -/
def cond0_0 (i : grid0.Coords) : Prop := (Scalar.cmpi .ne (Scalar.extui (Scalar.cmpi .eq (BitVec.ofNat 32 (i 0).val) 0#32)) 0#32) = 1#1
/-- The last branch's condition: the grid coordinate is twenty-four. -/
def cond0_1 (i : grid0.Coords) : Prop := k0_cond2 i = 1#1

instance (i : grid0.Coords) : Decidable (cond0_0 i) := by unfold cond0_0; infer_instance
instance (i : grid0.Coords) : Decidable (cond0_1 i) := by unfold cond0_1; infer_instance

/-- The first branch is taken at point 0 alone. -/
theorem hcond0_0 (t : Fin grid0.N) : cond0_0 (grid0.coords t) ↔ t.val = 0 := by
  have ht : t.val < 25 := lt_of_lt_of_eq t.isLt N_0
  have e0 : (grid0.coords t 0).val = t.val / 1 % 25 := Pipeline.Grid.coords_val t 0 (by decide) rfl
  simp only [cond0_0, e0]; word_cmp
/-- The last branch is taken at point 24 alone. -/
theorem hcond0_1 (t : Fin grid0.N) : cond0_1 (grid0.coords t) ↔ t.val = 24 := by
  have ht : t.val < 25 := lt_of_lt_of_eq t.isLt N_0
  have e0 : (grid0.coords t 0).val = t.val / 1 % 25 := Pipeline.Grid.coords_val t 0 (by decide) rfl
  simp only [cond0_1, k0_cond2, e0]; word_cmp

/-- The rows of a hidden block that one point stores. -/
abbrev rowR (i : grid0.Coords) : Rect S5000x128 := Rect.unit (s := S5000x128) (k0_off1 i) S200x128.size (k0_off1_inb i)

/-- The first scratch after the first point: the positive features' product in the left half of the columns, the negative features' in the right half. -/
def scrS (x2 x3 : Vec F S10000x128 .f32) (x4 : Vec F S128x128 .f32) : Vec F S10000x256 .bf16 :=
  View.canon (Val := Elt F) (s := S10000x256) (e := .bf16)
    [⟨Rect.unit (s := S10000x256) ![0, 128] S10000x128.size inb_S10000x256_S10000x128_0_128, k0_pay13 x4 x3⟩,
     ⟨Rect.unit (s := S10000x256) ![0, 0] S10000x128.size inb_S10000x256_S10000x128_0_0, k0_pay12 x4 x2⟩]

/-- Reading back one store: the old contents with the stored rectangle replaced. -/
theorem read_writes_overlay {sig' : RefSig} {κ' : Kind} {sp' : Space} {s : Shape} {e : EltTy} {Val : EltTy → Type} (v : View sig' κ' sp' s e) (f : v.ty.Contents Val)
    (p : View.Piece Val s e) (L : List (View.Piece Val s e)) :
    v.read Val (v.writes Val f (p :: L)) = p.1.overlay (v.read Val (v.writes Val f L)) p.2 := by
  funext y
  by_cases hy : y ∈ p.1.set
  · obtain ⟨x, rfl⟩ := p.1.exists_idx_of_mem hy
    exact (View.read_writes_cons_emb v f p.1 p.2 L x).trans (Rect.overlay_emb p.1 _ p.2 x).symm
  · rw [Rect.overlay_of_not_mem _ _ _ hy, View.read_writes_cons_miss v f p L y hy]

/-- A store through the whole rectangle replaces all of the contents. -/
theorem overlay_unit_lit {S : Shape} {α : Type} {off : Fin S.rank → Nat} (inb : ∀ a, off a + S.size a ≤ S.size a)
    (X w : S.Idx → α) (h : ∀ a, off a = 0) : (Rect.unit off (no_index S.size) inb).overlay X w = w := by
  obtain rfl : off = fun _ => 0 := funext h
  funext y
  exact (congrArg (fun z => (Rect.whole S).overlay X w z) (Rect.emb_whole_apply S y).symm).trans (Rect.overlay_emb (Rect.whole S) X w y)

/-- A place of a rectangle is one of its own places, embedded. -/
theorem exists_emb {s : Shape} (r : Rect s) {y : s.Idx} (hy : y ∈ r.set) : ∃ x, r.emb x = y := r.exists_idx_of_mem hy

/-- Whatever the first scratch held, the two stores of the first point leave it at `scrS`. -/
theorem scrS_overlay (X : Vec F S10000x256 .bf16) (x2 x3 : Vec F S10000x128 .f32) (x4 : Vec F S128x128 .f32) :
    (Rect.unit (s := S10000x256) ![0, 128] ![10000, 128] inb_S10000x256_S10000x128_0_128).overlay
      ((Rect.unit (s := S10000x256) ![0, 0] ![10000, 128] inb_S10000x256_S10000x128_0_0).overlay X (k0_pay12 x4 x2))
      (k0_pay13 x4 x3) = scrS x2 x3 x4 := by
  unfold scrS
  simp only [View.canon_cons]
  funext y
  by_cases hy : y ∈ (Rect.unit (s := S10000x256) ![0, 128] S10000x128.size inb_S10000x256_S10000x128_0_128).set
  · obtain ⟨x, rfl⟩ := exists_emb _ hy
    exact (Rect.overlay_emb _ _ _ x).trans (Rect.overlay_emb _ _ _ x).symm
  · rw [Rect.overlay_of_not_mem _ _ _ hy, Rect.overlay_of_not_mem _ _ _ hy]
    have hl : y ∈ (Rect.unit (s := S10000x256) ![0, 0] S10000x128.size inb_S10000x256_S10000x128_0_0).set := by
      rw [Rect.mem_set_unit] at hy ⊢
      by_contra hn
      apply hy
      have h0 : (y (0 : Fin 2)).val < 10000 := (y (0 : Fin 2)).isLt
      have h1 : (y (1 : Fin 2)).val < 256 := (y (1 : Fin 2)).isLt
      refine Fin.forall_fin_two.mpr ⟨⟨Nat.zero_le _, h0⟩, ?_, h1⟩
      by_contra hlt
      exact hn (Fin.forall_fin_two.mpr ⟨⟨Nat.zero_le _, h0⟩, Nat.zero_le _, not_le.mp hlt⟩)
    obtain ⟨x, rfl⟩ := exists_emb _ hl
    exact (Rect.overlay_emb _ _ _ x).trans (Rect.overlay_emb _ _ _ x).symm

/-- The first scratch read back whole after the two stores of the first point is `scrS`. -/
theorem readCov_scrS {κ' : Kind} {sp' : Space} (v : View sig κ' sp' S10000x256 .bf16) (x2 x3 : Vec F S10000x128 .f32) (x4 : Vec F S128x128 .f32) :
    v.readCov (Val := Elt F) [⟨Rect.unit (s := S10000x256) ![0, 128] ![10000, 128] inb_S10000x256_S10000x128_0_128, k0_pay13 x4 x3⟩,
     ⟨Rect.unit (s := S10000x256) ![0, 0] ![10000, 128] inb_S10000x256_S10000x128_0_0, k0_pay12 x4 x2⟩]
      (Rect.unit (s := S10000x256) ![0, 0] ![10000, 256] inb_S10000x256_S10000x256_0_0).toLoadRect = scrS x2 x3 x4 := by
  rw [View.readCov_eq_canon']
  exact View.ld_unit_lit' (S := S10000x256) inb_S10000x256_S10000x256_0_0 (scrS x2 x3 x4) (by decide)

end Cert.KernelIdeal.Hand
-- ==== Proof.RunA.lean ====
module

public import proofs.«01_k».proof.Proof.RunBase

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At the first point the body stores the two feature products into the first scratch, clears the running column sum, stores its rows of the four hidden blocks and adds their column sums; the outputs are untouched. -/
theorem runA (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S128x128 .f32) (harg8 : arg8.IsWhole) (arg9 : Memref sig .tc .vmem S1x1 .f32) (harg9 : arg9.IsWhole) (arg10 : Memref sig .tc .vmem S5000x1 .f32) (harg10 : arg10.IsWhole) (arg11 : Memref sig .tc .vmem S5000x1 .f32) (harg11 : arg11.IsWhole) (arg12 : Memref sig .tc .vmem S5000x1 .f32) (harg12 : arg12.IsWhole) (arg13 : Memref sig .tc .vmem S5000x1 .f32) (harg13 : arg13.IsWhole) (arg14 : Memref sig .tc .vmem S10000x256 .bf16) (harg14 : arg14.IsWhole) (arg15 : Memref sig .tc .vmem S5000x128 .bf16) (harg15 : arg15.IsWhole) (arg16 : Memref sig .tc .vmem S5000x128 .bf16) (harg16 : arg16.IsWhole) (arg17 : Memref sig .tc .vmem S5000x128 .bf16) (harg17 : arg17.IsWhole) (arg18 : Memref sig .tc .vmem S5000x128 .bf16) (harg18 : arg18.IsWhole) (arg19 : Memref sig .tc .vmem S1x128 .f32) (harg19 : arg19.IsWhole) (hc0 : cond0_0 i) (hc1 : ¬cond0_1 i)
    (x0 : Vec F S1x200x10000 .f32) (x1 : Vec F S1x200x10000 .f32) (x2 : Vec F S10000x128 .f32) (x3 : Vec F S10000x128 .f32) (x4 : Vec F S128x128 .f32) (x5 : Vec F S1x256 .f32) (x6 : Vec F S1x1 .f32) (x7 : Vec F S128x128 .f32) (x8 : Vec F S1x1 .f32) (y0 : Vec F S5000x1 .f32) (y1 : Vec F S5000x1 .f32) (y2 : Vec F S5000x1 .f32) (y3 : Vec F S5000x1 .f32) (d0 : Vec F S10000x256 .bf16) (d1 : Vec F S5000x128 .bf16) (d2 : Vec F S5000x128 .bf16) (d3 : Vec F S5000x128 .bf16) (d4 : Vec F S5000x128 .bf16) (d5 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare d0 ∗ owns (c : Thread nD τ) arg15 fullShare d1 ∗ owns (c : Thread nD τ) arg16 fullShare d2 ∗ owns (c : Thread nD τ) arg17 fullShare d3 ∗ owns (c : Thread nD τ) arg18 fullShare d4 ∗ owns (c : Thread nD τ) arg19 fullShare d5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare (scrS x2 x3 x4) ∗ owns (c : Thread nD τ) arg15 fullShare ((rowR i).overlay d1 (k0_pay19 (scrS x2 x3 x4) x5 x6 x0)) ∗ owns (c : Thread nD τ) arg16 fullShare ((rowR i).overlay d2 (k0_pay20 (scrS x2 x3 x4) x5 x6 x0)) ∗ owns (c : Thread nD τ) arg17 fullShare ((rowR i).overlay d3 (k0_pay3 (scrS x2 x3 x4) (k0_pay15 x5) (k0_pay16 x6) (k0_pay22 x1))) ∗ owns (c : Thread nD τ) arg18 fullShare ((rowR i).overlay d4 (k0_pay4 (scrS x2 x3 x4) (k0_pay15 x5) (k0_pay16 x6) (k0_pay22 x1))) ∗ owns (c : Thread nD τ) arg19 fullShare (k0_pay5 (scrS x2 x3 x4) (k0_pay15 x5) (k0_pay16 x6) (k0_pay21 (scrS x2 x3 x4) x5 x6 x0) (k0_pay22 x1) k0_pay14)) -∗ K ⟨⟩))
      ⊢ wp frame (wpE (defs₀ (F := F)) Variants.none c none) E (cc0__dgi_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__dgi_kernel_eq_skeleton]; unfold cc0__dgi_kernel_skel
  simp only [k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
  sl_exec (disch := first | sl_exact hc0 | sl_exact hc1)
  sl_step
  iapply Hk
  isplitl [H1]
  · iexists _; isplitr; swap; iexact H1; ipureintro; exact harg1.read_unread _
  isplitl [H2]
  · iexists _; isplitr; swap; iexact H2; ipureintro; exact harg2.read_unread _
  isplitl [H3]
  · iexists _; isplitr; swap; iexact H3; ipureintro; exact harg3.read_unread _
  isplitl [H4]
  · iexists _; isplitr; swap; iexact H4; ipureintro; exact harg4.read_unread _
  isplitl [H5]
  · iexists _; isplitr; swap; iexact H5; ipureintro; exact harg5.read_unread _
  isplitl [H6]
  · iexists _; isplitr; swap; iexact H6; ipureintro; exact harg6.read_unread _
  isplitl [H7]
  · iexists _; isplitr; swap; iexact H7; ipureintro; exact harg7.read_unread _
  isplitl [H8]
  · iexists _; isplitr; swap; iexact H8; ipureintro; exact harg8.read_unread _
  isplitl [H9]
  · iexists _; isplitr; swap; iexact H9; ipureintro; exact harg9.read_unread _
  isplitl [H10]
  · iexists _; isplitr; swap; iexact H10; ipureintro; exact harg10.read_unread _
  isplitl [H11]
  · iexists _; isplitr; swap; iexact H11; ipureintro; exact harg11.read_unread _
  isplitl [H12]
  · iexists _; isplitr; swap; iexact H12; ipureintro; exact harg12.read_unread _
  isplitl [H13]
  · iexists _; isplitr; swap; iexact H13; ipureintro; exact harg13.read_unread _
  isplitl [H14]
  · iexists _; isplitr; swap; iexact H14; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
    exact scrS_overlay _ _ _ _
  isplitl [H15]
  · iexists _; isplitr; swap; iexact H15; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H16]
  · iexists _; isplitr; swap; iexact H16; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H17]
  · iexists _; isplitr; swap; iexact H17; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H18]
  · iexists _; isplitr; swap; iexact H18; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  iexists _; isplitr; swap; iexact H19; ipureintro
  sl_unfold_run_names
  simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]

end Cert.KernelIdeal.Hand
-- ==== Proof.RunB.lean ====
module

public import proofs.«01_k».proof.Proof.RunA

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At a middle point the body stores its rows of the four hidden blocks and adds their column sums; everything else is untouched. -/
theorem runB (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S128x128 .f32) (harg8 : arg8.IsWhole) (arg9 : Memref sig .tc .vmem S1x1 .f32) (harg9 : arg9.IsWhole) (arg10 : Memref sig .tc .vmem S5000x1 .f32) (harg10 : arg10.IsWhole) (arg11 : Memref sig .tc .vmem S5000x1 .f32) (harg11 : arg11.IsWhole) (arg12 : Memref sig .tc .vmem S5000x1 .f32) (harg12 : arg12.IsWhole) (arg13 : Memref sig .tc .vmem S5000x1 .f32) (harg13 : arg13.IsWhole) (arg14 : Memref sig .tc .vmem S10000x256 .bf16) (harg14 : arg14.IsWhole) (arg15 : Memref sig .tc .vmem S5000x128 .bf16) (harg15 : arg15.IsWhole) (arg16 : Memref sig .tc .vmem S5000x128 .bf16) (harg16 : arg16.IsWhole) (arg17 : Memref sig .tc .vmem S5000x128 .bf16) (harg17 : arg17.IsWhole) (arg18 : Memref sig .tc .vmem S5000x128 .bf16) (harg18 : arg18.IsWhole) (arg19 : Memref sig .tc .vmem S1x128 .f32) (harg19 : arg19.IsWhole) (hc0 : ¬cond0_0 i) (hc1 : ¬cond0_1 i)
    (x0 : Vec F S1x200x10000 .f32) (x1 : Vec F S1x200x10000 .f32) (x2 : Vec F S10000x128 .f32) (x3 : Vec F S10000x128 .f32) (x4 : Vec F S128x128 .f32) (x5 : Vec F S1x256 .f32) (x6 : Vec F S1x1 .f32) (x7 : Vec F S128x128 .f32) (x8 : Vec F S1x1 .f32) (y0 : Vec F S5000x1 .f32) (y1 : Vec F S5000x1 .f32) (y2 : Vec F S5000x1 .f32) (y3 : Vec F S5000x1 .f32) (d0 : Vec F S10000x256 .bf16) (d1 : Vec F S5000x128 .bf16) (d2 : Vec F S5000x128 .bf16) (d3 : Vec F S5000x128 .bf16) (d4 : Vec F S5000x128 .bf16) (d5 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare d0 ∗ owns (c : Thread nD τ) arg15 fullShare d1 ∗ owns (c : Thread nD τ) arg16 fullShare d2 ∗ owns (c : Thread nD τ) arg17 fullShare d3 ∗ owns (c : Thread nD τ) arg18 fullShare d4 ∗ owns (c : Thread nD τ) arg19 fullShare d5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare d0 ∗ owns (c : Thread nD τ) arg15 fullShare ((rowR i).overlay d1 (k0_pay19 d0 x5 x6 x0)) ∗ owns (c : Thread nD τ) arg16 fullShare ((rowR i).overlay d2 (k0_pay20 d0 x5 x6 x0)) ∗ owns (c : Thread nD τ) arg17 fullShare ((rowR i).overlay d3 (k0_pay3 d0 (k0_pay15 x5) (k0_pay16 x6) (k0_pay22 x1))) ∗ owns (c : Thread nD τ) arg18 fullShare ((rowR i).overlay d4 (k0_pay4 d0 (k0_pay15 x5) (k0_pay16 x6) (k0_pay22 x1))) ∗ owns (c : Thread nD τ) arg19 fullShare (k0_pay5 d0 (k0_pay15 x5) (k0_pay16 x6) (k0_pay21 d0 x5 x6 x0) (k0_pay22 x1) d5)) -∗ K ⟨⟩))
      ⊢ wp frame (wpE (defs₀ (F := F)) Variants.none c none) E (cc0__dgi_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__dgi_kernel_eq_skeleton]; unfold cc0__dgi_kernel_skel
  simp only [k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
  sl_exec (disch := first | sl_exact hc0 | sl_exact hc1)
  sl_step
  iapply Hk
  isplitl [H1]
  · iexists _; isplitr; swap; iexact H1; ipureintro; exact harg1.read_unread _
  isplitl [H2]
  · iexists _; isplitr; swap; iexact H2; ipureintro; exact harg2.read_unread _
  isplitl [H3]
  · iexists _; isplitr; swap; iexact H3; ipureintro; exact harg3.read_unread _
  isplitl [H4]
  · iexists _; isplitr; swap; iexact H4; ipureintro; exact harg4.read_unread _
  isplitl [H5]
  · iexists _; isplitr; swap; iexact H5; ipureintro; exact harg5.read_unread _
  isplitl [H6]
  · iexists _; isplitr; swap; iexact H6; ipureintro; exact harg6.read_unread _
  isplitl [H7]
  · iexists _; isplitr; swap; iexact H7; ipureintro; exact harg7.read_unread _
  isplitl [H8]
  · iexists _; isplitr; swap; iexact H8; ipureintro; exact harg8.read_unread _
  isplitl [H9]
  · iexists _; isplitr; swap; iexact H9; ipureintro; exact harg9.read_unread _
  isplitl [H10]
  · iexists _; isplitr; swap; iexact H10; ipureintro; exact harg10.read_unread _
  isplitl [H11]
  · iexists _; isplitr; swap; iexact H11; ipureintro; exact harg11.read_unread _
  isplitl [H12]
  · iexists _; isplitr; swap; iexact H12; ipureintro; exact harg12.read_unread _
  isplitl [H13]
  · iexists _; isplitr; swap; iexact H13; ipureintro; exact harg13.read_unread _
  isplitl [H14]
  · iexists _; isplitr; swap; iexact H14; ipureintro; exact harg14.read_unread _
  isplitl [H15]
  · iexists _; isplitr; swap; iexact H15; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H16]
  · iexists _; isplitr; swap; iexact H16; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H17]
  · iexists _; isplitr; swap; iexact H17; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H18]
  · iexists _; isplitr; swap; iexact H18; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  iexists _; isplitr; swap; iexact H19; ipureintro
  sl_unfold_run_names
  simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]

end Cert.KernelIdeal.Hand
-- ==== Proof.RunC.lean ====
module

public import proofs.«01_k».proof.Proof.RunB

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- At the last point the body does what it does at a middle point, then fills the four outputs from the finished hidden blocks and the finished column sum. -/
theorem runC (c : Dev nD) (i : grid0.Coords) (arg1 : Memref sig .tc .vmem S1x200x10000 .f32) (harg1 : arg1.IsWhole) (arg2 : Memref sig .tc .vmem S1x200x10000 .f32) (harg2 : arg2.IsWhole) (arg3 : Memref sig .tc .vmem S10000x128 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x256 .f32) (harg6 : arg6.IsWhole) (arg7 : Memref sig .tc .vmem S1x1 .f32) (harg7 : arg7.IsWhole) (arg8 : Memref sig .tc .vmem S128x128 .f32) (harg8 : arg8.IsWhole) (arg9 : Memref sig .tc .vmem S1x1 .f32) (harg9 : arg9.IsWhole) (arg10 : Memref sig .tc .vmem S5000x1 .f32) (harg10 : arg10.IsWhole) (arg11 : Memref sig .tc .vmem S5000x1 .f32) (harg11 : arg11.IsWhole) (arg12 : Memref sig .tc .vmem S5000x1 .f32) (harg12 : arg12.IsWhole) (arg13 : Memref sig .tc .vmem S5000x1 .f32) (harg13 : arg13.IsWhole) (arg14 : Memref sig .tc .vmem S10000x256 .bf16) (harg14 : arg14.IsWhole) (arg15 : Memref sig .tc .vmem S5000x128 .bf16) (harg15 : arg15.IsWhole) (arg16 : Memref sig .tc .vmem S5000x128 .bf16) (harg16 : arg16.IsWhole) (arg17 : Memref sig .tc .vmem S5000x128 .bf16) (harg17 : arg17.IsWhole) (arg18 : Memref sig .tc .vmem S5000x128 .bf16) (harg18 : arg18.IsWhole) (arg19 : Memref sig .tc .vmem S1x128 .f32) (harg19 : arg19.IsWhole) (hc0 : ¬cond0_0 i) (hc1 : cond0_1 i)
    (x0 : Vec F S1x200x10000 .f32) (x1 : Vec F S1x200x10000 .f32) (x2 : Vec F S10000x128 .f32) (x3 : Vec F S10000x128 .f32) (x4 : Vec F S128x128 .f32) (x5 : Vec F S1x256 .f32) (x6 : Vec F S1x1 .f32) (x7 : Vec F S128x128 .f32) (x8 : Vec F S1x1 .f32) (y0 : Vec F S5000x1 .f32) (y1 : Vec F S5000x1 .f32) (y2 : Vec F S5000x1 .f32) (y3 : Vec F S5000x1 .f32) (d0 : Vec F S10000x256 .bf16) (d1 : Vec F S5000x128 .bf16) (d2 : Vec F S5000x128 .bf16) (d3 : Vec F S5000x128 .bf16) (d4 : Vec F S5000x128 .bf16) (d5 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare d0 ∗ owns (c : Thread nD τ) arg15 fullShare d1 ∗ owns (c : Thread nD τ) arg16 fullShare d2 ∗ owns (c : Thread nD τ) arg17 fullShare d3 ∗ owns (c : Thread nD τ) arg18 fullShare d4 ∗ owns (c : Thread nD τ) arg19 fullShare d5
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay8 (k0_pay5 d0 (k0_pay15 x5) (k0_pay16 x6) (k0_pay21 d0 x5 x6 x0) (k0_pay22 x1) d5) x7 x8 ((rowR i).overlay d1 (k0_pay19 d0 x5 x6 x0))) ∗ owns (c : Thread nD τ) arg11 fullShare (k0_pay9 (k0_pay5 d0 (k0_pay15 x5) (k0_pay16 x6) (k0_pay21 d0 x5 x6 x0) (k0_pay22 x1) d5) x7 x8 ((rowR i).overlay d3 (k0_pay3 d0 (k0_pay15 x5) (k0_pay16 x6) (k0_pay22 x1)))) ∗ owns (c : Thread nD τ) arg12 fullShare (k0_pay10 (k0_pay5 d0 (k0_pay15 x5) (k0_pay16 x6) (k0_pay21 d0 x5 x6 x0) (k0_pay22 x1) d5) x7 x8 ((rowR i).overlay d2 (k0_pay20 d0 x5 x6 x0))) ∗ owns (c : Thread nD τ) arg13 fullShare (k0_pay11 (k0_pay5 d0 (k0_pay15 x5) (k0_pay16 x6) (k0_pay21 d0 x5 x6 x0) (k0_pay22 x1) d5) x7 x8 ((rowR i).overlay d4 (k0_pay4 d0 (k0_pay15 x5) (k0_pay16 x6) (k0_pay22 x1)))) ∗ owns (c : Thread nD τ) arg14 fullShare d0 ∗ owns (c : Thread nD τ) arg15 fullShare ((rowR i).overlay d1 (k0_pay19 d0 x5 x6 x0)) ∗ owns (c : Thread nD τ) arg16 fullShare ((rowR i).overlay d2 (k0_pay20 d0 x5 x6 x0)) ∗ owns (c : Thread nD τ) arg17 fullShare ((rowR i).overlay d3 (k0_pay3 d0 (k0_pay15 x5) (k0_pay16 x6) (k0_pay22 x1))) ∗ owns (c : Thread nD τ) arg18 fullShare ((rowR i).overlay d4 (k0_pay4 d0 (k0_pay15 x5) (k0_pay16 x6) (k0_pay22 x1))) ∗ owns (c : Thread nD τ) arg19 fullShare (k0_pay5 d0 (k0_pay15 x5) (k0_pay16 x6) (k0_pay21 d0 x5 x6 x0) (k0_pay22 x1) d5)) -∗ K ⟨⟩))
      ⊢ wp frame (wpE (defs₀ (F := F)) Variants.none c none) E (cc0__dgi_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__dgi_kernel_eq_skeleton]; unfold cc0__dgi_kernel_skel
  simp only [k0_part2_eq_skeleton, k0_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
  sl_exec (disch := first | sl_exact hc0 | sl_exact hc1)
  sl_step
  iapply Hk
  isplitl [H1]
  · iexists _; isplitr; swap; iexact H1; ipureintro; exact harg1.read_unread _
  isplitl [H2]
  · iexists _; isplitr; swap; iexact H2; ipureintro; exact harg2.read_unread _
  isplitl [H3]
  · iexists _; isplitr; swap; iexact H3; ipureintro; exact harg3.read_unread _
  isplitl [H4]
  · iexists _; isplitr; swap; iexact H4; ipureintro; exact harg4.read_unread _
  isplitl [H5]
  · iexists _; isplitr; swap; iexact H5; ipureintro; exact harg5.read_unread _
  isplitl [H6]
  · iexists _; isplitr; swap; iexact H6; ipureintro; exact harg6.read_unread _
  isplitl [H7]
  · iexists _; isplitr; swap; iexact H7; ipureintro; exact harg7.read_unread _
  isplitl [H8]
  · iexists _; isplitr; swap; iexact H8; ipureintro; exact harg8.read_unread _
  isplitl [H9]
  · iexists _; isplitr; swap; iexact H9; ipureintro; exact harg9.read_unread _
  isplitl [H10]
  · iexists _; isplitr; swap; iexact H10; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H11]
  · iexists _; isplitr; swap; iexact H11; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H12]
  · iexists _; isplitr; swap; iexact H12; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H13]
  · iexists _; isplitr; swap; iexact H13; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H14]
  · iexists _; isplitr; swap; iexact H14; ipureintro; exact harg14.read_unread _
  isplitl [H15]
  · iexists _; isplitr; swap; iexact H15; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H16]
  · iexists _; isplitr; swap; iexact H16; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H17]
  · iexists _; isplitr; swap; iexact H17; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  isplitl [H18]
  · iexists _; isplitr; swap; iexact H18; ipureintro
    sl_unfold_run_names
    simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]
  iexists _; isplitr; swap; iexact H19; ipureintro
  sl_unfold_run_names
  simp (disch := decide) only [View.readAt_eq_ld, read_writes_overlay, View.writes_nil, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, View.ld_unit_lit', View.readCov_unit_lit', readCov_scrS, overlay_unit_lit]

end Cert.KernelIdeal.Hand
-- ==== Proof.Inv.lean ====
module

public import proofs.«01_k».proof.Proof.RunBase
public import Idealize.ShloMosaic.Lib.ValueIdxCore

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## What the scratch buffers hold after each point -/

/-- The grid has twenty-five points. -/
theorem N25 : cfg0.N = 25 := N_0

/-- Point `n` of the grid (its remainder modulo 25). -/
def pt (n : ℕ) : Fin cfg0.N := ⟨n % 25, lt_of_lt_of_eq (Nat.mod_lt n (by decide)) N25.symm⟩

theorem pt_val (t : Fin cfg0.N) : pt t.val = t :=
  Fin.ext (Nat.mod_eq_of_lt (lt_of_lt_of_eq t.isLt N25))

/-- The first scratch from the first point on: both feature products. -/
def Sv (c : Dev nD) : Vec F S10000x256 .bf16 := scrS (iblk m c 2 (pt 0)) (iblk m c 3 (pt 0)) (iblk m c 4 (pt 0))

/-- The rows point `t` stores of the positive hidden block of the top half, -/
def P15 (c : Dev nD) (t : Fin cfg0.N) : Vec F S200x128 .bf16 := k0_pay19 (Sv m c) (iblk m c 5 t) (iblk m c 6 t) (iblk m c 0 t)
/-- of the negative one of the top half, -/
def P16 (c : Dev nD) (t : Fin cfg0.N) : Vec F S200x128 .bf16 := k0_pay20 (Sv m c) (iblk m c 5 t) (iblk m c 6 t) (iblk m c 0 t)
/-- of the positive one of the bottom half, -/
def P17 (c : Dev nD) (t : Fin cfg0.N) : Vec F S200x128 .bf16 :=
  k0_pay3 (Sv m c) (k0_pay15 (iblk m c 5 t)) (k0_pay16 (iblk m c 6 t)) (k0_pay22 (iblk m c 1 t))
/-- and of the negative one of the bottom half. -/
def P18 (c : Dev nD) (t : Fin cfg0.N) : Vec F S200x128 .bf16 :=
  k0_pay4 (Sv m c) (k0_pay15 (iblk m c 5 t)) (k0_pay16 (iblk m c 6 t)) (k0_pay22 (iblk m c 1 t))

/-- One point's contribution to the running column sum. -/
def csStep (c : Dev nD) (t : Fin cfg0.N) (s : Vec F S1x128 .f32) : Vec F S1x128 .f32 :=
  k0_pay5 (Sv m c) (k0_pay15 (iblk m c 5 t)) (k0_pay16 (iblk m c 6 t)) (k0_pay21 (Sv m c) (iblk m c 5 t) (iblk m c 6 t) (iblk m c 0 t))
    (k0_pay22 (iblk m c 1 t)) s

/-- The running column sum after `n` points. -/
def csum (c : Dev nD) : ℕ → Vec F S1x128 .f32
  | 0 => k0_pay14
  | n + 1 => csStep m c (pt n) (csum c n)

theorem csum_succ (c : Dev nD) (t : Fin cfg0.N) : csum m c (t.val + 1) = csStep m c t (csum m c t.val) := by
  show csStep m c (pt t.val) (csum m c t.val) = _
  rw [pt_val]

/-- The 5000-row block assembled from the rows each point stores. -/
def Hof (P : Fin cfg0.N → Vec F S200x128 .bf16) : Vec F S5000x128 .bf16 := fun y =>
  P (pt ((y (0 : Fin 2)).val / 200)) (ValueIdx.ix2 ⟨(y (0 : Fin 2)).val % 200, Nat.mod_lt _ (by decide)⟩ (y (1 : Fin 2)))

/-- The contents agree with the assembled block on the rows the first `n` points store. -/
def Agree (n : ℕ) (P : Fin cfg0.N → Vec F S200x128 .bf16) (d : Vec F S5000x128 .bf16) : Prop :=
  ∀ y : S5000x128.Idx, (y (0 : Fin 2)).val < 200 * n → d y = Hof P y

/-- Before the first point there is nothing to agree on. -/
theorem agree_zero (P : Fin cfg0.N → Vec F S200x128 .bf16) (d : Vec F S5000x128 .bf16) : Agree 0 P d :=
  fun y h => absurd h (by omega)

/-- After the last point the contents are the assembled block. -/
theorem agree_last {P : Fin cfg0.N → Vec F S200x128 .bf16} {d : Vec F S5000x128 .bf16} (h : Agree 25 P d) : d = Hof P :=
  funext fun y => h y (by have := (y (0 : Fin 2)).isLt; exact this)

/-- The grid coordinate of point `t` is `t`. -/
theorem coords0 (t : Fin cfg0.N) : (grid0.coords t 0).val = t.val := by
  have ht : t.val < 25 := lt_of_lt_of_eq t.isLt N25
  have e0 : (grid0.coords t 0).val = t.val / 1 % 25 := Pipeline.Grid.coords_val t 0 (by decide) rfl
  rw [e0, Nat.div_one, Nat.mod_eq_of_lt ht]

/-- The rows point `t` stores start at row `200 * t`. -/
theorem rowR_off (t : Fin cfg0.N) : k0_off1 (grid0.coords t) = ![200 * t.val, 0] := by
  rw [k0_off1_eq, coords0]

/-- A point's store extends the agreement by its rows. -/
theorem agree_step {P : Fin cfg0.N → Vec F S200x128 .bf16} {d : Vec F S5000x128 .bf16} (t : Fin cfg0.N) (h : Agree t.val P d) :
    Agree (t.val + 1) P ((rowR (grid0.coords t)).overlay d (P t)) := by
  intro y hy
  have ht : t.val < 25 := lt_of_lt_of_eq t.isLt N25
  by_cases hlt : (y (0 : Fin 2)).val < 200 * t.val
  · rw [Rect.overlay_of_not_mem _ _ _ ?_]
    · exact h y hlt
    · rw [Rect.mem_set_unit]
      intro hm
      have h0 := (hm (0 : Fin 2)).1
      rw [rowR_off] at h0
      exact absurd h0 (not_le.mpr hlt)
  · have hmod : (y (0 : Fin 2)).val % 200 = (y (0 : Fin 2)).val - 200 * t.val := by omega
    have hdiv : (y (0 : Fin 2)).val / 200 = t.val := by omega
    have e : (rowR (grid0.coords t)).emb (ValueIdx.ix2 ⟨(y (0 : Fin 2)).val % 200, Nat.mod_lt _ (by decide)⟩ (y (1 : Fin 2))) = y := by
      apply Rect.emb_eq_of_coords
      refine Fin.forall_fin_two.mpr ⟨?_, ?_⟩
      · show (y (0 : Fin 2)).val = k0_off1 (grid0.coords t) 0 + 1 * ((y (0 : Fin 2)).val % 200)
        rw [rowR_off, hmod]
        show (y (0 : Fin 2)).val = 200 * t.val + _
        omega
      · show (y (1 : Fin 2)).val = k0_off1 (grid0.coords t) 1 + 1 * (y (1 : Fin 2)).val
        rw [rowR_off]
        show (y (1 : Fin 2)).val = 0 + _
        omega
    have hH : Hof P y = P t (ValueIdx.ix2 ⟨(y (0 : Fin 2)).val % 200, Nat.mod_lt _ (by decide)⟩ (y (1 : Fin 2))) := by
      unfold Hof
      rw [hdiv, pt_val]
    rw [hH]
    exact (congrArg ((rowR (grid0.coords t)).overlay d (P t)) e).symm.trans (Rect.overlay_emb _ _ _ _)

/-- The windows whose block never moves are read the same at every point. -/
theorem iblk2_const (c : Dev nD) (t : Fin cfg0.N) : iblk m c 2 t = iblk m c 2 (pt 0) := rfl
theorem iblk3_const (c : Dev nD) (t : Fin cfg0.N) : iblk m c 3 t = iblk m c 3 (pt 0) := rfl
theorem iblk4_const (c : Dev nD) (t : Fin cfg0.N) : iblk m c 4 t = iblk m c 4 (pt 0) := rfl

end Cert.KernelIdeal.Hand
-- ==== Proof.Body.lean ====
module

public import proofs.«01_k».proof.Proof.RunC
public import proofs.«01_k».proof.Proof.Inv

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The staging and scratch memrefs -/

abbrev ms0_0 (t : Fin cfg0.N) : Memref sig .tc .vmem S1x200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S10000x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S5000x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S5000x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S5000x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S5000x1 .f32 := win0_12.stage (cfg0.slots t 12)
abbrev hs0_12 (t : Fin cfg0.N) : (ms0_12 t).IsWhole := hstage0_12 ((cfg0.slots t 12).cast nbuf0_12)
abbrev scM0_0 : Memref sig .tc .vmem S10000x256 .bf16 := Memref.whole cc0_scratch0
abbrev scM0_1 : Memref sig .tc .vmem S5000x128 .bf16 := Memref.whole cc0_scratch1
abbrev scM0_2 : Memref sig .tc .vmem S5000x128 .bf16 := Memref.whole cc0_scratch2
abbrev scM0_3 : Memref sig .tc .vmem S5000x128 .bf16 := Memref.whole cc0_scratch3
abbrev scM0_4 : Memref sig .tc .vmem S5000x128 .bf16 := Memref.whole cc0_scratch4
abbrev scM0_5 : Memref sig .tc .vmem S1x128 .f32 := Memref.whole cc0_scratch5

/-- The class's invariant: every scratch buffer at some contents and the generator register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The scratch buffers after `n` points, `n` at least one: the feature products, the four hidden blocks finished on the rows stored so far,
    the running column sum. -/
def scAt (c : Dev nD) (n : ℕ) : sProp 𝕄 :=
  iprop(owns (c : Thread nD τ) scM0_0 fullShare (Sv m c) ∗ (∃ d, ⌜Agree n (P15 m c) d⌝ ∗ owns (c : Thread nD τ) scM0_1 fullShare d) ∗ (∃ d, ⌜Agree n (P16 m c) d⌝ ∗ owns (c : Thread nD τ) scM0_2 fullShare d) ∗ (∃ d, ⌜Agree n (P17 m c) d⌝ ∗ owns (c : Thread nD τ) scM0_3 fullShare d) ∗ (∃ d, ⌜Agree n (P18 m c) d⌝ ∗ owns (c : Thread nD τ) scM0_4 fullShare d) ∗ owns (c : Thread nD τ) scM0_5 fullShare (csum m c n))

/-- The invariant between points. -/
def PhiS (c : Dev nD) : (n : ℕ) → n ≤ cfg0.N → sProp 𝕄
  | 0, _ => Pipeline.ΦA spec0 c
  | n + 1, _ => iprop(scAt m c (n + 1) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(scAt m c (n + 1) ∗ (∃ r, prngReg c r)) := rfl
theorem PhiS_pos (c : Dev nD) (n : ℕ) (h : n ≤ cfg0.N) (hz : n ≠ 0) :
    PhiS m c n h = iprop(scAt m c n ∗ (∃ r, prngReg c r)) := by
  cases n with
  | zero => exact absurd rfl hz
  | succ n => rfl

/-! ## The pipeline's proof data -/

/-- What the last point leaves in the four outputs. -/
def out9 (c : Dev nD) (t : Fin cfg0.N) : Vec F S5000x1 .f32 := k0_pay8 (csum m c 25) (iblk m c 7 t) (iblk m c 8 t) (Hof (P15 m c))
def out10 (c : Dev nD) (t : Fin cfg0.N) : Vec F S5000x1 .f32 := k0_pay9 (csum m c 25) (iblk m c 7 t) (iblk m c 8 t) (Hof (P17 m c))
def out11 (c : Dev nD) (t : Fin cfg0.N) : Vec F S5000x1 .f32 := k0_pay10 (csum m c 25) (iblk m c 7 t) (iblk m c 8 t) (Hof (P16 m c))
def out12 (c : Dev nD) (t : Fin cfg0.N) : Vec F S5000x1 .f32 := k0_pay11 (csum m c 25) (iblk m c 7 t) (iblk m c 8 t) (Hof (P18 m c))

/-- The proof data: inputs keep their blocks, outputs end at `out9` … `out12`, the invariant is `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out9 m c t
    | ⟨10, _⟩ => out10 m c t
    | ⟨11, _⟩ => out11 m c t
    | ⟨12, _⟩ => out12 m c t
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]
theorem after0_11 (c : Dev nD) (t : Fin cfg0.N) : (dats m 0 c).after 11 t = out11 m c t := by dsimp only [dats]
theorem after0_12 (c : Dev nD) (t : Fin cfg0.N) : (dats m 0 c).after 12 t = out12 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem leaves0_0 (c : Dev nD) (t : Fin cfg0.N) : (dats m 0 c).leavesExact 0 t = owns (c : Thread nD τ) (ms0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (ms0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (ms0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (ms0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (ms0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (ms0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (ms0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (ms0_7 t) fullShare (iblk m c 7 t) := by
  unfold Dat.leavesExact; rw [show cfg0.idle 7 (grid0.coords t) = false from rfl, after0_7]
theorem leaves0_8 (c : Dev nD) (t : Fin cfg0.N) : (dats m 0 c).leavesExact 8 t = owns (c : Thread nD τ) (ms0_8 t) fullShare (iblk m c 8 t) := by
  unfold Dat.leavesExact; rw [show cfg0.idle 8 (grid0.coords t) = false from rfl, after0_8]
theorem idle0_9 (t : Fin cfg0.N) (h : t.val ≠ 24) : cfg0.idle 9 (grid0.coords t) = true := by
  have hn : ¬ k0_cond2 (grid0.coords t) = 1#1 := fun e => h ((hcond0_1 t).mp e)
  show (!(k0_cond2 (grid0.coords t) == 1#1)) = true
  simp [hn]
theorem live0_9 (t : Fin cfg0.N) (h : t.val = 24) : cfg0.idle 9 (grid0.coords t) = false := by
  have hn : k0_cond2 (grid0.coords t) = 1#1 := (hcond0_1 t).mpr h
  show (!(k0_cond2 (grid0.coords t) == 1#1)) = false
  simp [hn]
theorem leaves0_9_idle (c : Dev nD) (t : Fin cfg0.N) (h : t.val ≠ 24) :
    (dats m 0 c).leavesExact 9 t = iprop(∃ d, owns (c : Thread nD τ) (ms0_9 t) fullShare ((dats m 0 c).before 9 t d)) := by
  have hN : t.val < 25 := lt_of_lt_of_eq t.isLt N25
  exact Dat.leavesExact_idle (dats m 0 c) 9 t (idle0_9 t h) (Bool.eq_false_iff.mpr fun e => h (by have := (flush0_9 t).mp e; omega))
theorem leaves0_9_live (c : Dev nD) (t : Fin cfg0.N) (h : t.val = 24) :
    (dats m 0 c).leavesExact 9 t = owns (c : Thread nD τ) (ms0_9 t) fullShare (out9 m c t) := by
  unfold Dat.leavesExact; rw [live0_9 t h, after0_9]
theorem idle0_10 (t : Fin cfg0.N) (h : t.val ≠ 24) : cfg0.idle 10 (grid0.coords t) = true := by
  have hn : ¬ k0_cond2 (grid0.coords t) = 1#1 := fun e => h ((hcond0_1 t).mp e)
  show (!(k0_cond2 (grid0.coords t) == 1#1)) = true
  simp [hn]
theorem live0_10 (t : Fin cfg0.N) (h : t.val = 24) : cfg0.idle 10 (grid0.coords t) = false := by
  have hn : k0_cond2 (grid0.coords t) = 1#1 := (hcond0_1 t).mpr h
  show (!(k0_cond2 (grid0.coords t) == 1#1)) = false
  simp [hn]
theorem leaves0_10_idle (c : Dev nD) (t : Fin cfg0.N) (h : t.val ≠ 24) :
    (dats m 0 c).leavesExact 10 t = iprop(∃ d, owns (c : Thread nD τ) (ms0_10 t) fullShare ((dats m 0 c).before 10 t d)) := by
  have hN : t.val < 25 := lt_of_lt_of_eq t.isLt N25
  exact Dat.leavesExact_idle (dats m 0 c) 10 t (idle0_10 t h) (Bool.eq_false_iff.mpr fun e => h (by have := (flush0_10 t).mp e; omega))
theorem leaves0_10_live (c : Dev nD) (t : Fin cfg0.N) (h : t.val = 24) :
    (dats m 0 c).leavesExact 10 t = owns (c : Thread nD τ) (ms0_10 t) fullShare (out10 m c t) := by
  unfold Dat.leavesExact; rw [live0_10 t h, after0_10]
theorem idle0_11 (t : Fin cfg0.N) (h : t.val ≠ 24) : cfg0.idle 11 (grid0.coords t) = true := by
  have hn : ¬ k0_cond2 (grid0.coords t) = 1#1 := fun e => h ((hcond0_1 t).mp e)
  show (!(k0_cond2 (grid0.coords t) == 1#1)) = true
  simp [hn]
theorem live0_11 (t : Fin cfg0.N) (h : t.val = 24) : cfg0.idle 11 (grid0.coords t) = false := by
  have hn : k0_cond2 (grid0.coords t) = 1#1 := (hcond0_1 t).mpr h
  show (!(k0_cond2 (grid0.coords t) == 1#1)) = false
  simp [hn]
theorem leaves0_11_idle (c : Dev nD) (t : Fin cfg0.N) (h : t.val ≠ 24) :
    (dats m 0 c).leavesExact 11 t = iprop(∃ d, owns (c : Thread nD τ) (ms0_11 t) fullShare ((dats m 0 c).before 11 t d)) := by
  have hN : t.val < 25 := lt_of_lt_of_eq t.isLt N25
  exact Dat.leavesExact_idle (dats m 0 c) 11 t (idle0_11 t h) (Bool.eq_false_iff.mpr fun e => h (by have := (flush0_11 t).mp e; omega))
theorem leaves0_11_live (c : Dev nD) (t : Fin cfg0.N) (h : t.val = 24) :
    (dats m 0 c).leavesExact 11 t = owns (c : Thread nD τ) (ms0_11 t) fullShare (out11 m c t) := by
  unfold Dat.leavesExact; rw [live0_11 t h, after0_11]
theorem idle0_12 (t : Fin cfg0.N) (h : t.val ≠ 24) : cfg0.idle 12 (grid0.coords t) = true := by
  have hn : ¬ k0_cond2 (grid0.coords t) = 1#1 := fun e => h ((hcond0_1 t).mp e)
  show (!(k0_cond2 (grid0.coords t) == 1#1)) = true
  simp [hn]
theorem live0_12 (t : Fin cfg0.N) (h : t.val = 24) : cfg0.idle 12 (grid0.coords t) = false := by
  have hn : k0_cond2 (grid0.coords t) = 1#1 := (hcond0_1 t).mpr h
  show (!(k0_cond2 (grid0.coords t) == 1#1)) = false
  simp [hn]
theorem leaves0_12_idle (c : Dev nD) (t : Fin cfg0.N) (h : t.val ≠ 24) :
    (dats m 0 c).leavesExact 12 t = iprop(∃ d, owns (c : Thread nD τ) (ms0_12 t) fullShare ((dats m 0 c).before 12 t d)) := by
  have hN : t.val < 25 := lt_of_lt_of_eq t.isLt N25
  exact Dat.leavesExact_idle (dats m 0 c) 12 t (idle0_12 t h) (Bool.eq_false_iff.mpr fun e => h (by have := (flush0_12 t).mp e; omega))
theorem leaves0_12_live (c : Dev nD) (t : Fin cfg0.N) (h : t.val = 24) :
    (dats m 0 c).leavesExact 12 t = owns (c : Thread nD τ) (ms0_12 t) fullShare (out12 m c t) := by
  unfold Dat.leavesExact; rw [live0_12 t h, after0_12]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)) ∗ (∃ d, owns (c : Thread nD τ) (ms0_6 t) fullShare ((dats m 0 c).before 6 t d)) ∗ (∃ d, owns (c : Thread nD τ) (ms0_7 t) fullShare ((dats m 0 c).before 7 t d)) ∗ (∃ d, owns (c : Thread nD τ) (ms0_8 t) fullShare ((dats m 0 c).before 8 t d)) ∗ (∃ d, owns (c : Thread nD τ) (ms0_9 t) fullShare ((dats m 0 c).before 9 t d)) ∗ (∃ d, owns (c : Thread nD τ) (ms0_10 t) fullShare ((dats m 0 c).before 10 t d)) ∗ (∃ d, owns (c : Thread nD τ) (ms0_11 t) fullShare ((dats m 0 c).before 11 t d)) ∗ (∃ d, owns (c : Thread nD τ) (ms0_12 t) fullShare ((dats m 0 c).before 12 t d)))

/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t)

/-- At the last point the finished hidden block and the finished column sum give `out9`. -/
theorem out9_eq (c : Dev nD) (t : Fin cfg0.N) (h : t.val = 24) {d : Vec F S5000x128 .bf16} (hd : Agree (t.val + 1) (P15 m c) d) :
    out9 m c t = k0_pay8 (csStep m c t (csum m c t.val)) (iblk m c 7 t) (iblk m c 8 t) d := by
  unfold out9
  rw [h] at hd
  rw [agree_last hd, ← csum_succ, h]

/-- At the last point the finished hidden block and the finished column sum give `out10`. -/
theorem out10_eq (c : Dev nD) (t : Fin cfg0.N) (h : t.val = 24) {d : Vec F S5000x128 .bf16} (hd : Agree (t.val + 1) (P17 m c) d) :
    out10 m c t = k0_pay9 (csStep m c t (csum m c t.val)) (iblk m c 7 t) (iblk m c 8 t) d := by
  unfold out10
  rw [h] at hd
  rw [agree_last hd, ← csum_succ, h]

/-- At the last point the finished hidden block and the finished column sum give `out11`. -/
theorem out11_eq (c : Dev nD) (t : Fin cfg0.N) (h : t.val = 24) {d : Vec F S5000x128 .bf16} (hd : Agree (t.val + 1) (P16 m c) d) :
    out11 m c t = k0_pay10 (csStep m c t (csum m c t.val)) (iblk m c 7 t) (iblk m c 8 t) d := by
  unfold out11
  rw [h] at hd
  rw [agree_last hd, ← csum_succ, h]

/-- At the last point the finished hidden block and the finished column sum give `out12`. -/
theorem out12_eq (c : Dev nD) (t : Fin cfg0.N) (h : t.val = 24) {d : Vec F S5000x128 .bf16} (hd : Agree (t.val + 1) (P18 m c) d) :
    out12 m c t = k0_pay11 (csStep m c t (csum m c t.val)) (iblk m c 7 t) (iblk m c 8 t) d := by
  unfold out12
  rw [h] at hd
  rw [agree_last hd, ← csum_succ, h]

set_option maxHeartbeats 4000000 in
/-- The first point. -/
theorem sound_A (c : Dev nD) (t : Fin cfg0.N) (h0 : t.val = 0) (h24 : t.val ≠ 24) :
    bodyPre m c t ⊢ wp frame (wpE (defs₀ (F := F)) Variants.none c none) Set.univ (bodyAt0 t) (fun _ => bodyPost m c t) := by
  have hN : t.val < 25 := lt_of_lt_of_eq t.isLt N25
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  rw [leaves0_9_idle m c t h24, leaves0_10_idle m c t h24, leaves0_11_idle m c t h24, leaves0_12_idle m c t h24]
  rw [PhiS_castSucc m c t, PhiS_zero m c _ _ h0, PhiA0_eq]
  unfold scAt
  rw [csum_succ, show csum m c t.val = k0_pay14 from by rw [h0]; rfl]
  iintro ⟨⟨⟨⟨%e0, S0⟩, ⟨%e1, S1⟩, ⟨%e2, S2⟩, ⟨%e3, S3⟩, ⟨%e4, S4⟩, ⟨%e5, S5⟩⟩, Hg⟩, Ho, ⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, ⟨%g11, H11⟩, ⟨%g12, H12⟩⟩
  have a1 : Agree t.val (P15 m c) e1 := by rw [h0]; exact agree_zero _ _
  have a2 : Agree t.val (P16 m c) e2 := by rw [h0]; exact agree_zero _ _
  have a3 : Agree t.val (P17 m c) e3 := by rw [h0]; exact agree_zero _ _
  have a4 : Agree t.val (P18 m c) e4 := by rw [h0]; exact agree_zero _ _
  have b1 := agree_step t a1
  have b2 := agree_step t a2
  have b3 := agree_step t a3
  have b4 := agree_step t a4
  iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h24 ((hcond0_1 t).mp h))
    (iblk m c 0 t) (iblk m c 1 t) (iblk m c 2 t) (iblk m c 3 t) (iblk m c 4 t) (iblk m c 5 t) (iblk m c 6 t) (iblk m c 7 t) (iblk m c 8 t) ((dats m 0 c).before 9 t g9) ((dats m 0 c).before 10 t g10) ((dats m 0 c).before 11 t g11) ((dats m 0 c).before 12 t g12) e0 e1 e2 e3 e4 e5 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, S0, S1, S2, S3, S4, S5⟩
  isplitl [S0 S1 S2 S3 S4 S5 Hg]
  · isplitl [S0 S1 S2 S3 S4 S5]
    · isplitl [S0]; · iexact S0
      isplitl [S1]
      · iexists _; isplitr; swap; iexact S1; ipureintro; exact b1
      isplitl [S2]
      · iexists _; isplitr; swap; iexact S2; ipureintro; exact b2
      isplitl [S3]
      · iexists _; isplitr; swap; iexact S3; ipureintro; exact b3
      isplitl [S4]
      · iexists _; isplitr; swap; iexact S4; ipureintro; exact b4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists g9; iexact H9
  isplitl [H10]; · iexists g10; iexact H10
  isplitl [H11]; · iexists g11; iexact H11
  iexists g12; iexact H12

set_option maxHeartbeats 4000000 in
/-- A middle point. -/
theorem sound_B (c : Dev nD) (t : Fin cfg0.N) (h0 : t.val ≠ 0) (h24 : t.val ≠ 24) :
    bodyPre m c t ⊢ wp frame (wpE (defs₀ (F := F)) Variants.none c none) Set.univ (bodyAt0 t) (fun _ => bodyPost m c t) := by
  have hN : t.val < 25 := lt_of_lt_of_eq t.isLt N25
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  rw [leaves0_9_idle m c t h24, leaves0_10_idle m c t h24, leaves0_11_idle m c t h24, leaves0_12_idle m c t h24]
  rw [PhiS_castSucc m c t, PhiS_pos m c _ _ h0]
  unfold scAt
  rw [csum_succ]
  iintro ⟨⟨⟨S0, ⟨%e1, %a1, S1⟩, ⟨%e2, %a2, S2⟩, ⟨%e3, %a3, S3⟩, ⟨%e4, %a4, S4⟩, S5⟩, Hg⟩, Ho, ⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, ⟨%g11, H11⟩, ⟨%g12, H12⟩⟩
  have b1 := agree_step t a1
  have b2 := agree_step t a2
  have b3 := agree_step t a3
  have b4 := agree_step t a4
  iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h24 ((hcond0_1 t).mp h))
    (iblk m c 0 t) (iblk m c 1 t) (iblk m c 2 t) (iblk m c 3 t) (iblk m c 4 t) (iblk m c 5 t) (iblk m c 6 t) (iblk m c 7 t) (iblk m c 8 t) ((dats m 0 c).before 9 t g9) ((dats m 0 c).before 10 t g10) ((dats m 0 c).before 11 t g11) ((dats m 0 c).before 12 t g12) (Sv m c) e1 e2 e3 e4 (csum m c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, S0, S1, S2, S3, S4, S5⟩
  isplitl [S0 S1 S2 S3 S4 S5 Hg]
  · isplitl [S0 S1 S2 S3 S4 S5]
    · isplitl [S0]; · iexact S0
      isplitl [S1]
      · iexists _; isplitr; swap; iexact S1; ipureintro; exact b1
      isplitl [S2]
      · iexists _; isplitr; swap; iexact S2; ipureintro; exact b2
      isplitl [S3]
      · iexists _; isplitr; swap; iexact S3; ipureintro; exact b3
      isplitl [S4]
      · iexists _; isplitr; swap; iexact S4; ipureintro; exact b4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists g9; iexact H9
  isplitl [H10]; · iexists g10; iexact H10
  isplitl [H11]; · iexists g11; iexact H11
  iexists g12; iexact H12

set_option maxHeartbeats 4000000 in
/-- The last point. -/
theorem sound_C (c : Dev nD) (t : Fin cfg0.N) (h0 : t.val ≠ 0) (h24 : t.val = 24) :
    bodyPre m c t ⊢ wp frame (wpE (defs₀ (F := F)) Variants.none c none) Set.univ (bodyAt0 t) (fun _ => bodyPost m c t) := by
  have hN : t.val < 25 := lt_of_lt_of_eq t.isLt N25
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  rw [leaves0_9_live m c t h24, leaves0_10_live m c t h24, leaves0_11_live m c t h24, leaves0_12_live m c t h24]
  rw [PhiS_castSucc m c t, PhiS_pos m c _ _ h0]
  unfold scAt
  rw [csum_succ]
  iintro ⟨⟨⟨S0, ⟨%e1, %a1, S1⟩, ⟨%e2, %a2, S2⟩, ⟨%e3, %a3, S3⟩, ⟨%e4, %a4, S4⟩, S5⟩, Hg⟩, Ho, ⟨%g0, H0⟩, ⟨%g1, H1⟩, ⟨%g2, H2⟩, ⟨%g3, H3⟩, ⟨%g4, H4⟩, ⟨%g5, H5⟩, ⟨%g6, H6⟩, ⟨%g7, H7⟩, ⟨%g8, H8⟩, ⟨%g9, H9⟩, ⟨%g10, H10⟩, ⟨%g11, H11⟩, ⟨%g12, H12⟩⟩
  have b1 := agree_step t a1
  have b2 := agree_step t a2
  have b3 := agree_step t a3
  have b4 := agree_step t a4
  iapply (runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h24)
    (iblk m c 0 t) (iblk m c 1 t) (iblk m c 2 t) (iblk m c 3 t) (iblk m c 4 t) (iblk m c 5 t) (iblk m c 6 t) (iblk m c 7 t) (iblk m c 8 t) ((dats m 0 c).before 9 t g9) ((dats m 0 c).before 10 t g10) ((dats m 0 c).before 11 t g11) ((dats m 0 c).before 12 t g12) (Sv m c) e1 e2 e3 e4 (csum m c t.val) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  isplitl [S3]; · iexact S3
  isplitl [S4]; · iexact S4
  isplitl [S5]; · iexact S5
  iintro ⟨H0, H1, H2, H3, H4, H5, H6, H7, H8, H9, H10, H11, H12, S0, S1, S2, S3, S4, S5⟩
  isplitl [S0 S1 S2 S3 S4 S5 Hg]
  · isplitl [S0 S1 S2 S3 S4 S5]
    · isplitl [S0]; · iexact S0
      isplitl [S1]
      · iexists _; isplitr; swap; iexact S1; ipureintro; exact b1
      isplitl [S2]
      · iexists _; isplitr; swap; iexact S2; ipureintro; exact b2
      isplitl [S3]
      · iexists _; isplitr; swap; iexact S3; ipureintro; exact b3
      isplitl [S4]
      · iexists _; isplitr; swap; iexact S4; ipureintro; exact b4
      iexact S5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · rw [out9_eq m c t h24 b1]; iexact H9
  isplitl [H10]
  · rw [out10_eq m c t h24 b3]; iexact H10
  isplitl [H11]
  · rw [out11_eq m c t h24 b2]; iexact H11
  rw [out12_eq m c t h24 b4]; iexact H12

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0 (by omega)
  · by_cases h24 : t.val = 24
    · exact sound_C m c t h0 h24
    · exact sound_B m c t h0 h24

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last, N25]; decide), PhiA0_eq]
  unfold scAt
  iintro ⟨⟨S0, ⟨%e1, -, S1⟩, ⟨%e2, -, S2⟩, ⟨%e3, -, S3⟩, ⟨%e4, -, S4⟩, S5⟩, Hg⟩
  isplitl [S0 S1 S2 S3 S4 S5]
  · isplitl [S0]; · iexists _; iexact S0
    isplitl [S1]; · iexists _; iexact S1
    isplitl [S2]; · iexists _; iexact S2
    isplitl [S3]; · iexists _; iexact S3
    isplitl [S4]; · iexists _; iexact S4
    iexists _; iexact S5
  iexact Hg

end Cert.KernelIdeal.Hand
-- ==== Proof.KRun.lean ====
module

public import proofs.«01_k».proof.Proof.Body
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
set_option maxHeartbeats 1600000 in
/-- The launch: every run of the program ends with the staged arrays at their closed contents, every other buffer as the host lines leave it,
    and every semaphore counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_post m ρ)) ((θ_run defs _ _).mono (fun _ h => h.2) (run_quiescent m ρ))

end Cert.KernelIdeal.Hand
-- ==== Proof.KFrame.lean ====
module

public import proofs.«01_k».proof.Proof.KRun
public import proofs.«01_k».proof.Proof.Gen.Kernel
public import proofs.«01_k».proof.Defs
public import proofs.«01_k».proof.Proof.Gen.KernelIdeal

@[expose] public section

set_option maxRecDepth 16384

noncomputable section

namespace Cert.Proof
open Idealize.ShloMosaic Idealize.ShloMosaic.TcCoe Idealize.SL.Sem

/-! The printed program and the one that names its constant are one program when the name is read as the word printed,
so the frame proved of the second is a frame of the first. -/

/-- A constant by name read as the word it was printed with. -/
@[reducible] def wordNamed : Named Bits := ⟨fun _ _ {φ} b => Scalar.ofBits φ b⟩

set_option maxHeartbeats 4000000 in
/-- The two programs' kernel bodies agree. -/
theorem bodies_eq : Cert.Kernel.defs₀ (F := Bits) = (letI := wordNamed; Cert.KernelIdeal.defs₀ (F := Bits)) := by
  letI := wordNamed
  unfold Cert.Kernel.defs₀ Cert.KernelIdeal.defs₀
  refine congrArg Defs.onTc ?_
  funext l x
  match l, x with
  | 0, (t, s) => rfl

/-- The two programs' tables of bodies agree. -/
theorem defs_eq : Cert.Kernel.defs (F := Bits) = (letI := wordNamed; Cert.KernelIdeal.defs (F := Bits)) :=
  congrArg (Pipeline.defs (Cert.Kernel.pcfgs (F := Bits))) bodies_eq

set_option maxHeartbeats 4000000 in
/-- The two programs' main functions agree. -/
theorem kernel_main_eq : Cert.Kernel.main (F := Bits) = (letI := wordNamed; Cert.KernelIdeal.main (F := Bits)) := rfl

/-- The printed program runs to completion at the word level, keeps its arguments and leaves every semaphore at zero. -/
theorem kernel_frame : Cert.quiescent_Kernel (hKernel := Cert.Kernel.Gen.facts) := by
  intro m ρ _
  letI := wordNamed
  rw [defs_eq, kernel_main_eq]
  exact Cert.KernelIdeal.Hand.frame (F := Bits) m ρ

end Cert.Proof
end
-- ==== Proof.Math.lean ====
module

public import Idealize.ShloMosaic.PureOps.Ideal.Laws
public import Idealize.ShloMosaic.Lib.ValueIdx

@[expose] public section

noncomputable section

namespace Cert.Dgi

open Idealize.ShloMosaic
open scoped BigOperators

/-! The mathematics of the two programs over the extended reals, on plain finite index types, and the one equation
between them that needs finite numbers. -/

/-- The leaky rectifier with slope `al` below zero. -/
def prelu (al x : EReal) : EReal := Scalar.select (Ideal.cmp .oge x 0) x (al * x)

/-- The hidden value of node `r` in feature `k`: the rectified, biased product of the adjacency row with `X W`. -/
def hid (X : Fin 10000 → Fin 128 → EReal) (A : Fin 10000 → Fin 10000 → EReal) (W : Fin 128 → Fin 128 → EReal)
    (b : Fin 128 → EReal) (al : EReal) (r : Fin 10000) (k : Fin 128) : EReal :=
  prelu al ((∑ j : Fin 10000, A r j * ∑ i : Fin 128, X j i * W i k) + b k)

/-- The summary of a hidden array: the logistic function of each feature's mean over the nodes. -/
def gate (H : Fin 10000 → Fin 128 → EReal) (k : Fin 128) : EReal :=
  Ideal.logistic ((∑ r : Fin 10000, H r k) * ((10000⁻¹ : ℝ) : EReal))

/-- A node's score with the weights applied to the summary first, as the kernel computes it. -/
def scoreK (g : Fin 128 → EReal) (D : Fin 128 → Fin 128 → EReal) (db : EReal) (h : Fin 128 → EReal) : EReal :=
  (∑ k : Fin 128, h k * ∑ j : Fin 128, g j * D k j) + db

/-- A node's score with the weights applied to the hidden value first, as the reference computes it. -/
def scoreR (g : Fin 128 → EReal) (D : Fin 128 → Fin 128 → EReal) (db : EReal) (h : Fin 128 → EReal) : EReal :=
  (∑ j : Fin 128, g j * ∑ k : Fin 128, D k j * h k) + db

/-- An extended real that is a real number. -/
def IsReal (x : EReal) : Prop := ∃ r : ℝ, x = (r : EReal)

/-- A number strictly between the infinities is real. -/
theorem IsReal.of_bounds {x : EReal} (ht : x < ⊤) (hb : ⊥ < x) : IsReal x :=
  ⟨x.toReal, (EReal.coe_toReal ht.ne hb.ne').symm⟩

/-- Real numbers are closed under addition. -/
theorem IsReal.add {x y : EReal} : IsReal x → IsReal y → IsReal (x + y) := by
  rintro ⟨a, rfl⟩ ⟨b, rfl⟩; exact ⟨a + b, (EReal.coe_add a b).symm⟩

/-- Real numbers are closed under multiplication. -/
theorem IsReal.mul {x y : EReal} : IsReal x → IsReal y → IsReal (x * y) := by
  rintro ⟨a, rfl⟩ ⟨b, rfl⟩; exact ⟨a * b, (EReal.coe_mul a b).symm⟩

/-- A finite sum of real numbers, taken in the extended reals, is the real sum. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Real numbers are closed under finite sums. -/
theorem IsReal.sum {ι : Type} [Fintype ι] {f : ι → EReal} (h : ∀ i, IsReal (f i)) : IsReal (∑ i, f i) := by
  choose g hg using h
  exact ⟨∑ i, g i, by rw [coe_sum']; exact Finset.sum_congr rfl fun i _ => hg i⟩

/-- The rectifier of a real number with a real slope is real. -/
theorem IsReal.prelu {al x : EReal} (ha : IsReal al) (hx : IsReal x) : IsReal (prelu al x) := by
  unfold Cert.Dgi.prelu Scalar.select
  split
  · exact hx
  · exact ha.mul hx

/-- Hidden values of real inputs are real. -/
theorem hid_fin {X : Fin 10000 → Fin 128 → EReal} {A : Fin 10000 → Fin 10000 → EReal} {W : Fin 128 → Fin 128 → EReal}
    {b : Fin 128 → EReal} {al : EReal} (hX : ∀ j i, IsReal (X j i)) (hA : ∀ r j, IsReal (A r j)) (hW : ∀ i k, IsReal (W i k))
    (hb : ∀ k, IsReal (b k)) (ha : IsReal al) (r : Fin 10000) (k : Fin 128) : IsReal (hid X A W b al r k) :=
  ha.prelu ((IsReal.sum fun j => (hA r j).mul (IsReal.sum fun i => (hX j i).mul (hW i k))).add (hb k))

/-- The summary of a real hidden array is real. -/
theorem gate_fin {H : Fin 10000 → Fin 128 → EReal} (hH : ∀ r k, IsReal (H r k)) (k : Fin 128) : IsReal (gate H k) := by
  obtain ⟨x, hx⟩ := (IsReal.sum fun r => hH r k).mul ⟨(10000⁻¹ : ℝ), rfl⟩
  unfold gate
  rw [hx, Ideal.logistic_coe]
  exact ⟨_, rfl⟩

/-- **The two orders of applying the weights agree on real numbers.** -/
theorem score_eq {g : Fin 128 → EReal} {D : Fin 128 → Fin 128 → EReal} {h : Fin 128 → EReal} (db : EReal)
    (hg : ∀ j, IsReal (g j)) (hD : ∀ k j, IsReal (D k j)) (hh : ∀ k, IsReal (h k)) : scoreK g D db h = scoreR g D db h := by
  choose g' hg using hg
  choose D' hD using hD
  choose h' hh using hh
  unfold scoreK scoreR
  congr 1
  simp only [hg, hD, hh, ← EReal.coe_mul, ← coe_sum']
  congr 1
  simp only [Finset.mul_sum]
  rw [Finset.sum_comm]
  exact Finset.sum_congr rfl fun j _ => Finset.sum_congr rfl fun k _ => by ring

/-- The reference divides by ten thousand; the product with the reciprocal is the same number, and the expanded
    logistic function is the logistic function. -/
theorem div_tenthousand (x : EReal) : Ideal.div x ((10000 : ℝ) : EReal) = x * ((10000⁻¹ : ℝ) : EReal) := by
  rw [Ideal.div_coe (by norm_num : (10000 : ℝ) ≠ 0), one_div]

/-- The f32 pattern of ten thousand. -/
theorem ofBits_tenthousand : Ideal.ofBits .f32 0x461C4000#32 = ((10000 : ℝ) : EReal) := by
  simp [Ideal.ofBits, Ideal.ieee, -EReal.coe_mul]; norm_num

/-- The f32 pattern of one. -/
theorem ofBits_one' : Ideal.ofBits .f32 0x3F800000#32 = 1 := by
  rw [show (1 : EReal) = ((1 : ℝ) : EReal) by norm_cast]
  simp [Ideal.ofBits, Ideal.ieee, -EReal.coe_mul]; norm_num

/-- The f32 pattern of positive infinity. -/
theorem ofBits_top : Ideal.ofBits .f32 0x7F800000#32 = ⊤ := by simp [Ideal.ofBits, Ideal.ieee]

/-- The f32 pattern of negative infinity. -/
theorem ofBits_bot : Ideal.ofBits .f32 0xFF800000#32 = ⊥ := by simp [Ideal.ofBits, Ideal.ieee]

end Cert.Dgi

end
-- ==== Proof.Pre.lean ====
module

public import proofs.«01_k».proof.Proof.Gen.Pre_inputs_finite
public import proofs.«01_k».proof.Proof.Math
public import Idealize.ShloMosaic.Lib.ReduceAll
public import Idealize.ShloMosaic.Lib.IdealHost

@[expose] public section

set_option maxRecDepth 16384

noncomputable section

namespace Cert.Pre_inputs_finite.Hand

open Cert.Pre_inputs_finite Cert.Pre_inputs_finite.Gen Cert.Dgi
open Idealize.ShloMosaic Idealize.ShloMosaic.ValueIdx

/-! What the precondition says: every entry of the first seven arguments is a real number. -/

instance : Subsingleton S_.Idx := ⟨fun a b => funext fun i => i.elim0⟩

/-- A comparison that reads one holds. -/
theorem of_ofBool {b : Prop} [Decidable b] (h : BitVec.ofBool (decide b) = 1#1) : b := by
  by_cases hb : b
  · exact hb
  · rw [decide_eq_false hb] at h
    exact absurd h (by decide)

/-- An array each of whose entries tests below positive infinity and above negative infinity has real entries. -/
theorem real_of_test {s : Shape} {axes : List (Fin s.rank)} (h : s.ReducesTo axes S_) (hu : 0 < S_.numel)
    (x T B : FVec Ideal s .f32) (v : IVec S_ 1) (hT : ∀ i, T i = (⊤ : EReal)) (hB : ∀ i, B i = (⊥ : EReal)) (j : S_.Idx)
    (e : Host.reduce IntOp.andi (andi (cmpf .olt x T) (cmpf .ogt x B)) v h hu j = 1#1) (i : s.Idx) : IsReal (x i) := by
  have hx := Host.reduce_andi_all _ _ h hu j e i
  obtain ⟨h1, h2⟩ := IntOp.andi_eq_one.1 hx
  have h1' : BitVec.ofBool (decide ((x i : EReal) < T i)) = 1#1 := h1
  have h2' : BitVec.ofBool (decide ((B i : EReal) < x i)) = 1#1 := h2
  rw [hT] at h1'
  rw [hB] at h2'
  exact IsReal.of_bounds (of_ofBool h1') (of_ofBool h2')

/-- The upper bound, broadcast to any shape. -/
theorem top_at {T : Shape} (h : S_.BroadcastsInDim T ![]) (i : T.Idx) :
    broadcastInDim T ![] h (constant (F := Ideal) S_ .f32 0x7F800000#32) i = (⊤ : EReal) :=
  (broadcastInDim_scalar_apply h _ i).trans ofBits_top

/-- The lower bound, broadcast to any shape. -/
theorem bot_at {T : Shape} (h : S_.BroadcastsInDim T ![]) (i : T.Idx) :
    broadcastInDim T ![] h (constant (F := Ideal) S_ .f32 0xFF800000#32) i = (⊥ : EReal) :=
  (broadcastInDim_scalar_apply h _ i).trans ofBits_bot

/-- The precondition's function at one makes every entry of the first seven arguments real. -/
theorem real_of_pre (x0 x1 : FVec Ideal S1x10000x128 .f32) (x2 : FVec Ideal S1x10000x10000 .f32) (x3 : FVec Ideal S128x128 .f32)
    (x4 : FVec Ideal S128 .f32) (x5 : FVec Ideal S_ .f32) (x6 : FVec Ideal S128x128 .f32) (x7 : FVec Ideal S1 .f32)
    (h : fn (F := Ideal) x0 x1 x2 x3 x4 x5 x6 x7 ix0 = 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) := by
  dsimp only [fn, fn_part1, fn_part2] at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_test _ _ x0 _ _ _ (top_at _) (bot_at _) _ h0, real_of_test _ _ x1 _ _ _ (top_at _) (bot_at _) _ h1,
    real_of_test _ _ x2 _ _ _ (top_at _) (bot_at _) _ h2, real_of_test _ _ x3 _ _ _ (top_at _) (bot_at _) _ h3,
    real_of_test _ _ x4 _ _ _ (top_at _) (bot_at _) _ h4,
    real_of_test _ _ x5 _ _ _ (fun _ => ofBits_top) (fun _ => ofBits_bot) _ h5,
    real_of_test _ _ x6 _ _ _ (top_at _) (bot_at _) _ h6⟩

end Cert.Pre_inputs_finite.Hand

end
-- ==== Proof.KIn.lean ====
module

public import proofs.«01_k».proof.Proof.Inv
public import Idealize.ShloMosaic.Lib.ValueLayout
public import Idealize.ShloMosaic.Lib.Pipeline.Value

@[expose] public section

set_option maxRecDepth 16384

noncomputable section

namespace Cert.KernelIdeal.Hand

open Cert.KernelIdeal.Gen
open Idealize.ShloMosaic Idealize.ShloMosaic.TcCoe Idealize.ShloMosaic.Tactic Idealize.ShloMosaic.ValueIdx
open Idealize.SL.Sem
open scoped BigOperators

variable {F : FTy → Type} [FloatOps F] [Named F]
variable (m : (ℓ : Loc nD τ sig) → Buf (Elt F) ℓ) (c : Dev nD)

/-! The arrays the kernel's windows read, and their blocks, in terms of the launched arguments. -/

/-- The features with the unit axis dropped. -/
theorem V_v0 : V m c main_v0 = shapeCast S10000x128 (m ((c : Thread nD τ).loc main_arg0)) shapeCasts_S1x10000x128_S10000x128 := by
  show StableHlo.after hostOps0 (fun b => m (c, b)) (Proc.devRef .tc main_v0) = _
  unfold hostOps0
  after_results
  all_goals rfl
/-- The shuffled features with the unit axis dropped. -/
theorem V_v1 : V m c main_v1 = shapeCast S10000x128 (m ((c : Thread nD τ).loc main_arg1)) shapeCasts_S1x10000x128_S10000x128 := by
  show StableHlo.after hostOps0 (fun b => m (c, b)) (Proc.devRef .tc main_v1) = _
  unfold hostOps0
  after_results
  all_goals rfl
/-- The adjacency matrix split into its top and bottom halves. -/
theorem V_v2 : V m c main_v2 = shapeCast S2x5000x10000 (m ((c : Thread nD τ).loc main_arg2)) shapeCasts_S1x10000x10000_S2x5000x10000 := by
  show StableHlo.after hostOps0 (fun b => m (c, b)) (Proc.devRef .tc main_v2) = _
  unfold hostOps0
  after_results
  all_goals rfl
/-- The bias, twice over, as one row. -/
theorem V_v4 : V m c main_v4 = shapeCast S1x256 (concatenate S256 0 [⟨S128, m ((c : Thread nD τ).loc main_arg4)⟩,
    ⟨S128, m ((c : Thread nD τ).loc main_arg4)⟩] concatenates_S128_S128_S256_d0) shapeCasts_S256_S1x256 := by
  show StableHlo.after hostOps0 (fun b => m (c, b)) (Proc.devRef .tc main_v4) = _
  unfold hostOps0
  after_results
  all_goals rfl
/-- The slope as a 1×1 array. -/
theorem V_v5 : V m c main_v5 = shapeCast S1x1 (m ((c : Thread nD τ).loc main_arg5)) shapeCasts_S_S1x1 := by
  show StableHlo.after hostOps0 (fun b => m (c, b)) (Proc.devRef .tc main_v5) = _
  unfold hostOps0
  after_results
  all_goals rfl
/-- The score bias as a 1×1 array. -/
theorem V_v6 : V m c main_v6 = shapeCast S1x1 (m ((c : Thread nD τ).loc main_arg7)) shapeCasts_S1_S1x1 := by
  show StableHlo.after hostOps0 (fun b => m (c, b)) (Proc.devRef .tc main_v6) = _
  unfold hostOps0
  after_results
  all_goals rfl
/-- The score weights transposed. -/
theorem V_v7 : V m c main_v7 = transpose S128x128 [1, 0] (m ((c : Thread nD τ).loc main_arg6)) transposes_S128x128_S128x128_1_0 := by
  show StableHlo.after hostOps0 (fun b => m (c, b)) (Proc.devRef .tc main_v7) = _
  unfold hostOps0
  after_results
  all_goals rfl

/-- The block indices of the whole-array windows are zero. -/
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
/-- The adjacency windows' block indices: the half, the point, zero. -/
theorem idx0 : ∀ t : Fin cfg0.N, win0_0.index t (0 : Fin 3) = 0 ∧ win0_0.index t (1 : Fin 3) = t.val ∧ win0_0.index t (2 : Fin 3) = 0 := (by decide +kernel : ∀ t : Fin grid0.N, _)
theorem idx1 : ∀ t : Fin cfg0.N, win0_1.index t (0 : Fin 3) = 1 ∧ win0_1.index t (1 : Fin 3) = t.val ∧ win0_1.index t (2 : Fin 3) = 0 := (by decide +kernel : ∀ t : Fin grid0.N, _)

/-- The features' block at any point is the features. -/
theorem iblk2_apply (t : Fin cfg0.N) (j : Fin 10000) (i : Fin 128) :
    (iblk m c 2 t : Vec F S10000x128 .f32) (ix2 j i) = m ((c : Thread nD τ).loc main_arg0) (ix3 (0 : Fin 1) j i) := by
  obtain ⟨e0, e1⟩ := idx2 t
  have he : ((cfg0.win 2).blk t).view.emb (ix2 j i) = ix2 j i := by
    funext a; apply Fin.ext
    match a with
    | ⟨0, _⟩ => show win0_2.index t (0 : Fin 2) * 10000 + 1 * j.val = j.val; omega
    | ⟨1, _⟩ => show win0_2.index t (1 : Fin 2) * 128 + 1 * i.val = i.val; omega
  unfold iblk
  rw [View.read_apply]
  show V m c main_v0 (((cfg0.win 2).blk t).view.emb (ix2 j i)) = _
  rw [he, V_v0]
  exact shapeCast_1ab_ab_apply (a := 10000) (b := 128) _ shapeCasts_S1x10000x128_S10000x128 j i

/-- The shuffled features' block at any point is the shuffled features. -/
theorem iblk3_apply (t : Fin cfg0.N) (j : Fin 10000) (i : Fin 128) :
    (iblk m c 3 t : Vec F S10000x128 .f32) (ix2 j i) = m ((c : Thread nD τ).loc main_arg1) (ix3 (0 : Fin 1) j i) := by
  obtain ⟨e0, e1⟩ := idx3 t
  have he : ((cfg0.win 3).blk t).view.emb (ix2 j i) = ix2 j i := by
    funext a; apply Fin.ext
    match a with
    | ⟨0, _⟩ => show win0_3.index t (0 : Fin 2) * 10000 + 1 * j.val = j.val; omega
    | ⟨1, _⟩ => show win0_3.index t (1 : Fin 2) * 128 + 1 * i.val = i.val; omega
  unfold iblk
  rw [View.read_apply]
  show V m c main_v1 (((cfg0.win 3).blk t).view.emb (ix2 j i)) = _
  rw [he, V_v1]
  exact shapeCast_1ab_ab_apply (a := 10000) (b := 128) _ shapeCasts_S1x10000x128_S10000x128 j i

/-- The weights' block at any point is the weights. -/
theorem iblk4_apply (t : Fin cfg0.N) (j : Fin 128) (i : Fin 128) :
    (iblk m c 4 t : Vec F S128x128 .f32) (ix2 j i) = m ((c : Thread nD τ).loc main_arg3) (ix2 j i) := by
  obtain ⟨e0, e1⟩ := idx4 t
  have he : ((cfg0.win 4).blk t).view.emb (ix2 j i) = ix2 j i := by
    funext a; apply Fin.ext
    match a with
    | ⟨0, _⟩ => show win0_4.index t (0 : Fin 2) * 128 + 1 * j.val = j.val; omega
    | ⟨1, _⟩ => show win0_4.index t (1 : Fin 2) * 128 + 1 * i.val = i.val; omega
  unfold iblk
  rw [View.read_apply]
  show V m c main_arg3 (((cfg0.win 4).blk t).view.emb (ix2 j i)) = _
  rw [he, V_main_arg3]

/-- The doubled bias row at a column of the left half, and at one of the right half. -/
theorem iblk5_left (t : Fin cfg0.N) (k : Fin 128) :
    (iblk m c 5 t : Vec F S1x256 .f32) (ix2 (0 : Fin 1) (⟨k.val, by omega⟩ : Fin 256)) = m ((c : Thread nD τ).loc main_arg4) (ix1 k) := by
  obtain ⟨e0, e1⟩ := idx5 t
  have he : ((cfg0.win 5).blk t).view.emb (ix2 (0 : Fin 1) (⟨k.val, by omega⟩ : Fin 256)) = ix2 (0 : Fin 1) (⟨k.val, by omega⟩ : Fin 256) := by
    funext a; apply Fin.ext
    match a with
    | ⟨0, _⟩ => show win0_5.index t (0 : Fin 2) * 1 + 1 * 0 = 0; omega
    | ⟨1, _⟩ => show win0_5.index t (1 : Fin 2) * 256 + 1 * k.val = k.val; omega
  unfold iblk
  rw [View.read_apply]
  show V m c main_v4 (((cfg0.win 5).blk t).view.emb (ix2 (0 : Fin 1) (⟨k.val, by omega⟩ : Fin 256))) = _
  rw [he, V_v4]
  refine (shapeCast_a_1a_apply (a := 256) _ shapeCasts_S256_S1x256 0 _).trans ?_
  exact concatenate_pair_apply_left (t := S256) (s₁ := S128) (s₂ := S128) 0 _ _ concatenates_S128_S128_S256_d0 _ rfl (ix1 k)
    (fun b => match b with | ⟨0, _⟩ => rfl)

theorem iblk5_right (t : Fin cfg0.N) (k : Fin 128) :
    (iblk m c 5 t : Vec F S1x256 .f32) (ix2 (0 : Fin 1) (⟨128 + k.val, by omega⟩ : Fin 256)) = m ((c : Thread nD τ).loc main_arg4) (ix1 k) := by
  obtain ⟨e0, e1⟩ := idx5 t
  have he : ((cfg0.win 5).blk t).view.emb (ix2 (0 : Fin 1) (⟨128 + k.val, by omega⟩ : Fin 256)) = ix2 (0 : Fin 1) (⟨128 + k.val, by omega⟩ : Fin 256) := by
    funext a; apply Fin.ext
    match a with
    | ⟨0, _⟩ => show win0_5.index t (0 : Fin 2) * 1 + 1 * 0 = 0; omega
    | ⟨1, _⟩ => show win0_5.index t (1 : Fin 2) * 256 + 1 * (128 + k.val) = 128 + k.val; omega
  unfold iblk
  rw [View.read_apply]
  show V m c main_v4 (((cfg0.win 5).blk t).view.emb (ix2 (0 : Fin 1) (⟨128 + k.val, by omega⟩ : Fin 256))) = _
  rw [he, V_v4]
  refine (shapeCast_a_1a_apply (a := 256) _ shapeCasts_S256_S1x256 0 _).trans ?_
  exact concatenate_pair_apply_right (t := S256) (s₁ := S128) (s₂ := S128) 0 _ _ concatenates_S128_S128_S256_d0 _ rfl rfl (ix1 k)
    (fun b => match b with | ⟨0, _⟩ => fun h => absurd rfl h) (Nat.add_comm k.val 128)

/-- The slope's block at any point is the slope. -/
theorem iblk6_apply (t : Fin cfg0.N) :
    (iblk m c 6 t : Vec F S1x1 .f32) (ix2 (0 : Fin 1) (0 : Fin 1)) = m ((c : Thread nD τ).loc main_arg5) ix0 := by
  obtain ⟨e0, e1⟩ := idx6 t
  have he : ((cfg0.win 6).blk t).view.emb (ix2 (0 : Fin 1) (0 : Fin 1)) = ix2 (0 : Fin 1) (0 : Fin 1) := by
    funext a; apply Fin.ext
    match a with
    | ⟨0, _⟩ => show win0_6.index t (0 : Fin 2) * 1 + 1 * 0 = 0; omega
    | ⟨1, _⟩ => show win0_6.index t (1 : Fin 2) * 1 + 1 * 0 = 0; omega
  unfold iblk
  rw [View.read_apply]
  show V m c main_v5 (((cfg0.win 6).blk t).view.emb (ix2 (0 : Fin 1) (0 : Fin 1))) = _
  rw [he, V_v5]
  exact congrArg (m ((c : Thread nD τ).loc main_arg5)) (eq_ix0 _)

/-- The transposed score weights' block at any point. -/
theorem iblk7_apply (t : Fin cfg0.N) (j k : Fin 128) :
    (iblk m c 7 t : Vec F S128x128 .f32) (ix2 j k) = m ((c : Thread nD τ).loc main_arg6) (ix2 k j) := by
  obtain ⟨e0, e1⟩ := idx7 t
  have he : ((cfg0.win 7).blk t).view.emb (ix2 j k) = ix2 j k := by
    funext a; apply Fin.ext
    match a with
    | ⟨0, _⟩ => show win0_7.index t (0 : Fin 2) * 128 + 1 * j.val = j.val; omega
    | ⟨1, _⟩ => show win0_7.index t (1 : Fin 2) * 128 + 1 * k.val = k.val; omega
  unfold iblk
  rw [View.read_apply]
  show V m c main_v7 (((cfg0.win 7).blk t).view.emb (ix2 j k)) = _
  rw [he, V_v7]
  exact transpose_ix2_apply (a := 128) (b := 128) _ transposes_S128x128_S128x128_1_0 j k

/-- The score bias's block at any point is the score bias. -/
theorem iblk8_apply (t : Fin cfg0.N) :
    (iblk m c 8 t : Vec F S1x1 .f32) (ix2 (0 : Fin 1) (0 : Fin 1)) = m ((c : Thread nD τ).loc main_arg7) (ix1 (0 : Fin 1)) := by
  obtain ⟨e0, e1⟩ := idx8 t
  have he : ((cfg0.win 8).blk t).view.emb (ix2 (0 : Fin 1) (0 : Fin 1)) = ix2 (0 : Fin 1) (0 : Fin 1) := by
    funext a; apply Fin.ext
    match a with
    | ⟨0, _⟩ => show win0_8.index t (0 : Fin 2) * 1 + 1 * 0 = 0; omega
    | ⟨1, _⟩ => show win0_8.index t (1 : Fin 2) * 1 + 1 * 0 = 0; omega
  unfold iblk
  rw [View.read_apply]
  show V m c main_v6 (((cfg0.win 8).blk t).view.emb (ix2 (0 : Fin 1) (0 : Fin 1))) = _
  rw [he, V_v6]
  exact shapeCast_a_1a_apply (a := 1) _ shapeCasts_S1_S1x1 0 0

/-- A row of the halved adjacency array is a row of the adjacency matrix. -/
theorem halves_apply (x : S1x10000x10000.Idx → Elt F .f32) (s : Fin 2) (p : Fin 5000) (j : Fin 10000) (r : Fin 10000)
    (hr : r.val = s.val * 5000 + p.val) :
    shapeCast S2x5000x10000 x shapeCasts_S1x10000x10000_S2x5000x10000 (ix3 s p j) = x (ix3 (0 : Fin 1) r j) :=
  shapeCast_apply x shapeCasts_S1x10000x10000_S2x5000x10000 _ _ (by
    rw [Shape.rowMajor_val_three, Shape.rowMajor_val_three]
    show (0 * 10000 + r.val) * 10000 + j.val = (s.val * 5000 + p.val) * 10000 + j.val
    rw [hr, Nat.zero_mul, Nat.zero_add])

/-- The top adjacency block at point `t`: rows `200 t …` of the matrix. -/
theorem iblk0_apply (t : Fin cfg0.N) (p : Fin 200) (j : Fin 10000) (r : Fin 10000) (hr : r.val = 200 * t.val + p.val) :
    (iblk m c 0 t : Vec F S1x200x10000 .f32) (ix3 (0 : Fin 1) p j) = m ((c : Thread nD τ).loc main_arg2) (ix3 (0 : Fin 1) r j) := by
  obtain ⟨e0, e1, e2⟩ := idx0 t
  have ht : t.val < 25 := lt_of_lt_of_eq t.isLt N25
  have he : ((cfg0.win 0).blk t).view.emb (ix3 (0 : Fin 1) p j) = ix3 (0 : Fin 2) (⟨200 * t.val + p.val, by omega⟩ : Fin 5000) j := by
    funext a; apply Fin.ext
    match a with
    | ⟨0, _⟩ => show win0_0.index t (0 : Fin 3) * 1 + 1 * 0 = 0; omega
    | ⟨1, _⟩ => show win0_0.index t (1 : Fin 3) * 200 + 1 * p.val = 200 * t.val + p.val; omega
    | ⟨2, _⟩ => show win0_0.index t (2 : Fin 3) * 10000 + 1 * j.val = j.val; omega
  unfold iblk
  rw [View.read_apply]
  show V m c main_v2 (((cfg0.win 0).blk t).view.emb (ix3 (0 : Fin 1) p j)) = _
  rw [he, V_v2]
  exact halves_apply _ 0 _ j r (by simp [hr])

/-- The bottom adjacency block at point `t`: rows `5000 + 200 t …` of the matrix. -/
theorem iblk1_apply (t : Fin cfg0.N) (p : Fin 200) (j : Fin 10000) (r : Fin 10000) (hr : r.val = 5000 + (200 * t.val + p.val)) :
    (iblk m c 1 t : Vec F S1x200x10000 .f32) (ix3 (0 : Fin 1) p j) = m ((c : Thread nD τ).loc main_arg2) (ix3 (0 : Fin 1) r j) := by
  obtain ⟨e0, e1, e2⟩ := idx1 t
  have ht : t.val < 25 := lt_of_lt_of_eq t.isLt N25
  have he : ((cfg0.win 1).blk t).view.emb (ix3 (0 : Fin 1) p j) = ix3 (1 : Fin 2) (⟨200 * t.val + p.val, by omega⟩ : Fin 5000) j := by
    funext a; apply Fin.ext
    match a with
    | ⟨0, _⟩ => show win0_1.index t (0 : Fin 3) * 1 + 1 * 0 = 1; omega
    | ⟨1, _⟩ => show win0_1.index t (1 : Fin 3) * 200 + 1 * p.val = 200 * t.val + p.val; omega
    | ⟨2, _⟩ => show win0_1.index t (2 : Fin 3) * 10000 + 1 * j.val = j.val; omega
  unfold iblk
  rw [View.read_apply]
  show V m c main_v2 (((cfg0.win 1).blk t).view.emb (ix3 (0 : Fin 1) p j)) = _
  rw [he, V_v2]
  exact halves_apply _ 1 _ j r (by simp [hr])

end Cert.KernelIdeal.Hand

end
-- ==== Proof.KPay.lean ====
module

public import proofs.«01_k».proof.Proof.Math
public import proofs.«01_k».proof.Proof.Inv
public import Idealize.ShloMosaic.Lib.MatmulPlain
public import Idealize.ShloMosaic.Lib.ValueLayout
public import Idealize.ShloMosaic.Lib.Pipeline.Value
public import Idealize.ShloMosaic.PureOps.IdealRules

@[expose] public section

set_option maxRecDepth 16384

noncomputable section

namespace Cert.KernelIdeal.Hand

open Cert.KernelIdeal.Gen Cert.Dgi
open Idealize.ShloMosaic Idealize.ShloMosaic.ValueIdx
open scoped BigOperators

/-! The values the kernel's body stores, read at an index over the extended reals. -/

/-- The big product of the top half: the adjacency block times the stored array. -/
theorem mm200 (l : FVec Ideal S200x10000 .bf16) (s : FVec Ideal S10000x256 .bf16) (p : Fin 200) (q : Fin 256) :
    matmul dot_S200x10000_S10000x256_S200x256_1_0_0_1_n_n none l s (constant S200x256 .f32 0x00000000#32) (ix2 p q)
      = ∑ j : Fin 10000, l (ix2 p j) * s (ix2 j q) := by
  refine (Ideal.matmul_plain_apply (M := 200) (K := 10000) (N := 256) none l s (constant S200x256 .f32 0x00000000#32) p q).trans ?_
  rw [constant_apply, Ideal.ofBits_zero_f32, zero_add]

/-- The product of the features with the weights. -/
theorem mm10000 (l : FVec Ideal S10000x128 .f32) (s : FVec Ideal S128x128 .f32) (p : Fin 10000) (q : Fin 128) :
    matmul dot_S10000x128_S128x128_S10000x128_1_0_0_1_n_n none l s (constant S10000x128 .f32 0x00000000#32) (ix2 p q)
      = ∑ j : Fin 128, l (ix2 p j) * s (ix2 j q) := by
  refine (Ideal.matmul_plain_apply (M := 10000) (K := 128) (N := 128) none l s (constant S10000x128 .f32 0x00000000#32) p q).trans ?_
  rw [constant_apply, Ideal.ofBits_zero_f32, zero_add]

/-- The product of the summary with the score weights. -/
theorem mm1 (l : FVec Ideal S1x128 .f32) (s : FVec Ideal S128x128 .f32) (p : Fin 1) (q : Fin 128) :
    matmul dot_S1x128_S128x128_S1x128_1_0_0_1_n_n none l s (constant S1x128 .f32 0x00000000#32) (ix2 p q)
      = ∑ j : Fin 128, l (ix2 p j) * s (ix2 j q) := by
  refine (Ideal.matmul_plain_apply (M := 1) (K := 128) (N := 128) none l s (constant S1x128 .f32 0x00000000#32) p q).trans ?_
  rw [constant_apply, Ideal.ofBits_zero_f32, zero_add]

/-- The product of the hidden rows with the weighted summary. -/
theorem mm5000 (l : FVec Ideal S5000x128 .bf16) (s : FVec Ideal S128x1 .bf16) (p : Fin 5000) (q : Fin 1) :
    matmul dot_S5000x128_S128x1_S5000x1_1_0_0_1_n_n none l s (constant S5000x1 .f32 0x00000000#32) (ix2 p q)
      = ∑ j : Fin 128, l (ix2 p j) * s (ix2 j q) := by
  refine (Ideal.matmul_plain_apply (M := 5000) (K := 128) (N := 1) none l s (constant S5000x1 .f32 0x00000000#32) p q).trans ?_
  rw [constant_apply, Ideal.ofBits_zero_f32, zero_add]

/-- The hidden block of the bottom half at an element. -/
theorem pay1_apply (s : Vec Ideal S10000x256 .bf16) (b : FVec Ideal S1x256 .f32) (al : Ideal .f32) (a : FVec Ideal S200x10000 .f32)
    (p : Fin 200) (q : Fin 256) :
    k0_pay1 (F := Ideal) s b al a (ix2 p q)
      = prelu al ((∑ j : Fin 10000, a (ix2 p j) * s (ix2 j q)) + b (ix2 (0 : Fin 1) q)) := by
  unfold k0_pay1 prelu
  rw [select_apply, cmpf_apply, mulf_apply, addf_apply, broadcast_apply, broadcast_apply, mm200,
    broadcastTo_1b_ab_apply (a := 200) (b := 256) b broadcasts_S1x256_S200x256 p q]
  show Scalar.select (Ideal.cmp .oge _ (Ideal.ofBits .f32 0x00000000#32)) _ _ = _
  rw [Ideal.ofBits_zero_f32]
  rfl

/-- The hidden block of the top half at an element. -/
theorem pay17_apply (s : Vec Ideal S10000x256 .bf16) (b : Vec Ideal S1x256 .f32) (al : Vec Ideal S1x1 .f32)
    (a : Vec Ideal S1x200x10000 .f32) (p : Fin 200) (q : Fin 256) :
    k0_pay17 (F := Ideal) s b al a (ix2 p q)
      = prelu (al (ix2 (0 : Fin 1) (0 : Fin 1)))
          ((∑ j : Fin 10000, a (ix3 (0 : Fin 1) p j) * s (ix2 j q)) + b (ix2 (0 : Fin 1) q)) := by
  refine Eq.trans (b := k0_pay1 (F := Ideal) s (k0_pay15 b) (k0_pay16 al) (k0_pay22 a) (ix2 p q)) rfl ?_
  rw [pay1_apply]
  unfold k0_pay15 k0_pay16 k0_pay22
  rw [shapeCast_self b]
  have e : extractAt ![0, 0] al inpos_S1x1_p0_0 = al (ix2 (0 : Fin 1) (0 : Fin 1)) := by
    unfold extractAt
    exact congrArg al (funext fun d => match d with | ⟨0, _⟩ => rfl | ⟨1, _⟩ => rfl)
  rw [e]
  refine congrArg (prelu _) (congrArg (· + _) (Finset.sum_congr rfl fun j _ => ?_))
  rw [shapeCast_1ab_ab_apply (a := 200) (b := 10000) a shapeCasts_S1x200x10000_S200x10000 p j]

/-- The body's later part of the point works with the same block function, on the loaded slab's two-axis form. -/
theorem pay1_eq17 (s : Vec Ideal S10000x256 .bf16) (b : Vec Ideal S1x256 .f32) (al : Vec Ideal S1x1 .f32)
    (a : Vec Ideal S1x200x10000 .f32) : k0_pay1 (F := Ideal) s (k0_pay15 b) (k0_pay16 al) (k0_pay22 a) = k0_pay17 s b al a := rfl

/-- The left half of a hidden block: the features of the given nodes. -/
theorem left_apply (x : FVec Ideal S200x256 .f32) (p : Fin 200) (k : Fin 128) :
    extractStridedSlice S200x128 ![0, 0] x slices_S200x256_o0_0_S200x128 (ix2 p k)
      = x (ix2 p (⟨k.val, by omega⟩ : Fin 256)) :=
  slice2_axis1_apply (n0 := 200) (n1 := 256) (m := 128) 0 x slices_S200x256_o0_0_S200x128 p k _ (by simp)

/-- The right half of a hidden block: the features of the shuffled nodes. -/
theorem right_apply (x : FVec Ideal S200x256 .f32) (p : Fin 200) (k : Fin 128) :
    extractStridedSlice S200x128 ![0, 128] x slices_S200x256_o0_128_S200x128 (ix2 p k)
      = x (ix2 p (⟨128 + k.val, by omega⟩ : Fin 256)) :=
  slice2_axis1_apply (n0 := 200) (n1 := 256) (m := 128) 128 x slices_S200x256_o0_128_S200x128 p k _ rfl

/-- What the body keeps of the top half's left block. -/
theorem pay19_apply (s : Vec Ideal S10000x256 .bf16) (b : Vec Ideal S1x256 .f32) (al : Vec Ideal S1x1 .f32)
    (a : Vec Ideal S1x200x10000 .f32) (p : Fin 200) (k : Fin 128) :
    k0_pay19 (F := Ideal) s b al a (ix2 p k) = k0_pay17 s b al a (ix2 p (⟨k.val, by omega⟩ : Fin 256)) := by
  unfold k0_pay19 k0_pay18
  rw [shapeCast_self, truncf_apply]
  exact left_apply _ p k

/-- What the body keeps of the top half's right block. -/
theorem pay20_apply (s : Vec Ideal S10000x256 .bf16) (b : Vec Ideal S1x256 .f32) (al : Vec Ideal S1x1 .f32)
    (a : Vec Ideal S1x200x10000 .f32) (p : Fin 200) (k : Fin 128) :
    k0_pay20 (F := Ideal) s b al a (ix2 p k) = k0_pay17 s b al a (ix2 p (⟨128 + k.val, by omega⟩ : Fin 256)) := by
  unfold k0_pay20
  rw [shapeCast_self, truncf_apply]
  exact right_apply _ p k

/-- What the body keeps of the bottom half's left block. -/
theorem pay3_apply (s : Vec Ideal S10000x256 .bf16) (b : Vec Ideal S1x256 .f32) (al : Vec Ideal S1x1 .f32)
    (a : Vec Ideal S1x200x10000 .f32) (p : Fin 200) (k : Fin 128) :
    k0_pay3 (F := Ideal) s (k0_pay15 b) (k0_pay16 al) (k0_pay22 a) (ix2 p k)
      = k0_pay17 s b al a (ix2 p (⟨k.val, by omega⟩ : Fin 256)) := by
  unfold k0_pay3 k0_pay2
  rw [shapeCast_self, truncf_apply, pay1_eq17]
  exact left_apply _ p k

/-- What the body keeps of the bottom half's right block. -/
theorem pay4_apply (s : Vec Ideal S10000x256 .bf16) (b : Vec Ideal S1x256 .f32) (al : Vec Ideal S1x1 .f32)
    (a : Vec Ideal S1x200x10000 .f32) (p : Fin 200) (k : Fin 128) :
    k0_pay4 (F := Ideal) s (k0_pay15 b) (k0_pay16 al) (k0_pay22 a) (ix2 p k)
      = k0_pay17 s b al a (ix2 p (⟨128 + k.val, by omega⟩ : Fin 256)) := by
  unfold k0_pay4
  rw [shapeCast_self, truncf_apply, pay1_eq17]
  exact right_apply _ p k

/-- A column sum of a 200×128 block, kept as one row. -/
theorem colsum_apply (x : FVec Ideal S200x128 .f32) (k : Fin 128) :
    shapeCast S1x128 (multiReduction .add [0] S128 x 0x00000000#32 reduces_S200x128_S128 (.inl rfl) rfl) shapeCasts_S128_S1x128
        (ix2 (0 : Fin 1) k) = ∑ p : Fin 200, x (ix2 p k) := by
  rw [shapeCast_a_1a_apply (a := 128) _ shapeCasts_S128_S1x128 0 k]
  refine (Ideal.reduceAdd_single (s := S200x128) (t := S128) (a := 0) reduces_S200x128_S128 x (ix1 k)).trans ?_
  refine Finset.sum_congr rfl fun p _ => congrArg x (funext fun d => Fin.ext ?_)
  match d with
  | ⟨0, _⟩ => rfl
  | ⟨1, _⟩ => rfl

/-- One point's step of the running sum: the top block's columns, then the bottom block's. -/
theorem pay5_apply (s : Vec Ideal S10000x256 .bf16) (b : Vec Ideal S1x256 .f32) (al : Vec Ideal S1x1 .f32)
    (a0 a1 : Vec Ideal S1x200x10000 .f32) (cs : Vec Ideal S1x128 .f32) (k : Fin 128) :
    k0_pay5 (F := Ideal) s (k0_pay15 b) (k0_pay16 al) (k0_pay21 s b al a0) (k0_pay22 a1) cs (ix2 (0 : Fin 1) k)
      = cs (ix2 (0 : Fin 1) k) + (∑ p : Fin 200, k0_pay17 s b al a0 (ix2 p (⟨k.val, by omega⟩ : Fin 256)))
          + ∑ p : Fin 200, k0_pay17 s b al a1 (ix2 p (⟨k.val, by omega⟩ : Fin 256)) := by
  unfold k0_pay5 k0_pay21 k0_pay2 k0_pay18
  rw [shapeCast_self, addf_apply, addf_apply, colsum_apply, colsum_apply, pay1_eq17]
  refine congrArg₂ (· + ·) (congrArg₂ (· + ·) rfl ?_) ?_
  · exact Finset.sum_congr rfl fun p _ => left_apply _ p k
  · exact Finset.sum_congr rfl fun p _ => left_apply _ p k

/-- The running sum starts from zero. -/
theorem pay14_apply (i : S1x128.Idx) : k0_pay14 (F := Ideal) i = 0 := by
  unfold k0_pay14
  rw [shapeCast_self]
  exact Ideal.ofBits_zero_f32

/-- The product of features and weights, first half of the stored array. -/
theorem pay12_apply (w : Vec Ideal S128x128 .f32) (x : Vec Ideal S10000x128 .f32) (j : Fin 10000) (k : Fin 128) :
    k0_pay12 (F := Ideal) w x (ix2 j k) = ∑ i : Fin 128, x (ix2 j i) * w (ix2 i k) := by
  unfold k0_pay12
  rw [shapeCast_self, shapeCast_self]
  exact mm10000 x w j k

/-- The product of shuffled features and weights, second half of the stored array. -/
theorem pay13_apply (w : Vec Ideal S128x128 .f32) (x : Vec Ideal S10000x128 .f32) (j : Fin 10000) (k : Fin 128) :
    k0_pay13 (F := Ideal) w x (ix2 j k) = ∑ i : Fin 128, x (ix2 j i) * w (ix2 i k) := by
  unfold k0_pay13
  rw [shapeCast_self, shapeCast_self]
  exact mm10000 x w j k

/-- The named constant is the reciprocal of ten thousand. -/
theorem named_inv : (Named.named (F := Ideal) κ "inv_n" (0x38D1B717#32 : BitVec (FTy.bits .f32)) : Ideal .f32) = ((10000⁻¹ : ℝ) : EReal) :=
  IdealRules.named_const.ideal_named_scalar _ _ _ _ rfl

/-- The weighted summary as one column. -/
theorem pay6_apply (cs : Vec Ideal S1x128 .f32) (d : Vec Ideal S128x128 .f32) (k : Fin 128) :
    k0_pay6 (F := Ideal) cs d (ix2 k (0 : Fin 1))
      = ∑ j : Fin 128, Ideal.logistic (cs (ix2 (0 : Fin 1) j) * ((10000⁻¹ : ℝ) : EReal)) * d (ix2 j k) := by
  unfold k0_pay6
  rw [truncf_apply]
  refine (transpose_ix2_apply (a := 1) (b := 128) _ transposes_S1x128_p1_0_S128x1 k 0).trans ?_
  refine (mm1 _ _ 0 k).trans (Finset.sum_congr rfl fun j _ => ?_)
  rw [shapeCast_self]
  refine congrArg (· * d (ix2 j k)) ?_
  exact congrArg (fun x : EReal => Ideal.logistic (cs (ix2 (0 : Fin 1) j) * x)) named_inv

/-- The scores of half the nodes, from the kept hidden rows. -/
theorem pay8_apply (cs : Vec Ideal S1x128 .f32) (d : Vec Ideal S128x128 .f32) (db : Vec Ideal S1x1 .f32)
    (h : Vec Ideal S5000x128 .bf16) (r : Fin 5000) :
    k0_pay8 (F := Ideal) cs d db h (ix2 r (0 : Fin 1))
      = (∑ k : Fin 128, h (ix2 r k)
            * ∑ j : Fin 128, Ideal.logistic (cs (ix2 (0 : Fin 1) j) * ((10000⁻¹ : ℝ) : EReal)) * d (ix2 j k))
          + db (ix2 (0 : Fin 1) (0 : Fin 1)) := by
  unfold k0_pay8 k0_pay7
  rw [addf_apply, broadcast_apply, mm5000]
  have e : extractAt ![0, 0] db inpos_S1x1_p0_0 = db (ix2 (0 : Fin 1) (0 : Fin 1)) := by
    unfold extractAt
    exact congrArg db (funext fun a => match a with | ⟨0, _⟩ => rfl | ⟨1, _⟩ => rfl)
  rw [e]
  exact congrArg (· + _) (Finset.sum_congr rfl fun k _ => congrArg (_ * ·) (pay6_apply cs d k))

/-- The other three stored results are the same function of their operands. -/
theorem pay9_eq (cs : Vec Ideal S1x128 .f32) (d : Vec Ideal S128x128 .f32) (db : Vec Ideal S1x1 .f32)
    (h : Vec Ideal S5000x128 .bf16) : k0_pay9 (F := Ideal) cs d db h = k0_pay8 cs d db h := rfl
theorem pay10_eq (cs : Vec Ideal S1x128 .f32) (d : Vec Ideal S128x128 .f32) (db : Vec Ideal S1x1 .f32)
    (h : Vec Ideal S5000x128 .bf16) : k0_pay10 (F := Ideal) cs d db h = k0_pay8 cs d db h := rfl
theorem pay11_eq (cs : Vec Ideal S1x128 .f32) (d : Vec Ideal S128x128 .f32) (db : Vec Ideal S1x1 .f32)
    (h : Vec Ideal S5000x128 .bf16) : k0_pay11 (F := Ideal) cs d db h = k0_pay8 cs d db h := rfl

end Cert.KernelIdeal.Hand

end
-- ==== Proof.KClosed.lean ====
module

public import proofs.«01_k».proof.Proof.KIn
public import proofs.«01_k».proof.Proof.KPay

@[expose] public section

set_option maxRecDepth 16384

noncomputable section

namespace Cert.KernelIdeal.Hand

open Cert.KernelIdeal.Gen Cert.Dgi
open Idealize.ShloMosaic Idealize.ShloMosaic.TcCoe Idealize.ShloMosaic.Tactic Idealize.ShloMosaic.ValueIdx
open Idealize.SL.Sem
open scoped BigOperators

variable (m : (ℓ : Loc nD τ sig) → Buf (Elt Ideal) ℓ) (c : Dev nD)

/-! The kernel's hidden blocks and column sum in closed form. -/

/-- The features of node `j`. -/
def aX (j : Fin 10000) (i : Fin 128) : EReal := m ((c : Thread nD τ).loc main_arg0) (ix3 (0 : Fin 1) j i)
/-- The shuffled features of node `j`. -/
def aN (j : Fin 10000) (i : Fin 128) : EReal := m ((c : Thread nD τ).loc main_arg1) (ix3 (0 : Fin 1) j i)
/-- The adjacency matrix. -/
def aA (r j : Fin 10000) : EReal := m ((c : Thread nD τ).loc main_arg2) (ix3 (0 : Fin 1) r j)
/-- The convolution's weights. -/
def aW (i k : Fin 128) : EReal := m ((c : Thread nD τ).loc main_arg3) (ix2 i k)
/-- The convolution's bias. -/
def aB (k : Fin 128) : EReal := m ((c : Thread nD τ).loc main_arg4) (ix1 k)
/-- The rectifier's slope. -/
def aS : EReal := m ((c : Thread nD τ).loc main_arg5) ix0
/-- The score's weights. -/
def aD (k j : Fin 128) : EReal := m ((c : Thread nD τ).loc main_arg6) (ix2 k j)
/-- The score's bias. -/
def aE : EReal := m ((c : Thread nD τ).loc main_arg7) (ix1 (0 : Fin 1))
/-- The hidden array of the features, -/
def hPos : Fin 10000 → Fin 128 → EReal := hid (aX m c) (aA m c) (aW m c) (aB m c) (aS m c)
/-- and of the shuffled features. -/
def hNeg : Fin 10000 → Fin 128 → EReal := hid (aN m c) (aA m c) (aW m c) (aB m c) (aS m c)

/-- The left half of the first scratch is the features times the weights. -/
theorem Sv_left (j : Fin 10000) (k : Fin 128) :
    Sv m c (ix2 j (⟨k.val, by omega⟩ : Fin 256)) = ∑ i : Fin 128, aX m c j i * aW m c i k := by
  unfold Sv scrS
  rw [View.canon_cons_of_not_mem]
  · refine (congrArg _ ?_).trans ((View.canon_cons_emb (s := S10000x256)
      (Rect.unit (s := S10000x256) ![0, 0] S10000x128.size inb_S10000x256_S10000x128_0_0) _ [] (ix2 j k)).trans
      ((pay12_apply _ _ j k).trans (Finset.sum_congr rfl fun i _ => ?_)))
    · funext a; apply Fin.ext
      match a with
      | ⟨0, _⟩ => show j.val = 0 + 1 * j.val; omega
      | ⟨1, _⟩ => show k.val = 0 + 1 * k.val; omega
    · rw [iblk2_apply, iblk4_apply]; rfl
  · rw [Rect.mem_set_unit]
    intro h
    have h1 : 128 ≤ k.val := (h (1 : Fin 2)).1
    omega

/-- The right half is the shuffled features times the weights. -/
theorem Sv_right (j : Fin 10000) (k : Fin 128) :
    Sv m c (ix2 j (⟨128 + k.val, by omega⟩ : Fin 256)) = ∑ i : Fin 128, aN m c j i * aW m c i k := by
  unfold Sv scrS
  refine (congrArg _ ?_).trans ((View.canon_cons_emb (s := S10000x256)
      (Rect.unit (s := S10000x256) ![0, 128] S10000x128.size inb_S10000x256_S10000x128_0_128) _ _ (ix2 j k)).trans
      ((pay13_apply _ _ j k).trans (Finset.sum_congr rfl fun i _ => ?_)))
  · funext a; apply Fin.ext
    match a with
    | ⟨0, _⟩ => show j.val = 0 + 1 * j.val; omega
    | ⟨1, _⟩ => show 128 + k.val = 128 + 1 * k.val; omega
  · rw [iblk3_apply, iblk4_apply]; rfl

/-- A hidden entry of the left half, from any adjacency block whose row `p` is row `r` of the matrix. -/
theorem hid_left (t : Fin cfg0.N) (a : Vec Ideal S1x200x10000 .f32) (p : Fin 200) (r : Fin 10000)
    (ha : ∀ j, a (ix3 (0 : Fin 1) p j) = aA m c r j) (k : Fin 128) :
    k0_pay17 (F := Ideal) (Sv m c) (iblk m c 5 t) (iblk m c 6 t) a (ix2 p (⟨k.val, by omega⟩ : Fin 256)) = hPos m c r k := by
  refine (pay17_apply _ _ _ a p _).trans ?_
  rw [iblk6_apply, iblk5_left]
  unfold hPos hid
  simp only [ha, Sv_left]
  rfl

/-- A hidden entry of the right half. -/
theorem hid_right (t : Fin cfg0.N) (a : Vec Ideal S1x200x10000 .f32) (p : Fin 200) (r : Fin 10000)
    (ha : ∀ j, a (ix3 (0 : Fin 1) p j) = aA m c r j) (k : Fin 128) :
    k0_pay17 (F := Ideal) (Sv m c) (iblk m c 5 t) (iblk m c 6 t) a (ix2 p (⟨128 + k.val, by omega⟩ : Fin 256)) = hNeg m c r k := by
  refine (pay17_apply _ _ _ a p _).trans ?_
  rw [iblk6_apply, iblk5_right]
  unfold hNeg hid
  simp only [ha, Sv_right]
  rfl

/-- The row of the adjacency matrix that row `p` of point `t`'s top block is. -/
def topRow (t : Fin cfg0.N) (p : Fin 200) : Fin 10000 :=
  ⟨200 * t.val + p.val, by have : t.val < 25 := lt_of_lt_of_eq t.isLt N25; omega⟩
/-- The row that row `p` of its bottom block is. -/
def botRow (t : Fin cfg0.N) (p : Fin 200) : Fin 10000 :=
  ⟨5000 + (200 * t.val + p.val), by have : t.val < 25 := lt_of_lt_of_eq t.isLt N25; omega⟩

theorem P15_apply (t : Fin cfg0.N) (p : Fin 200) (k : Fin 128) : P15 m c t (ix2 p k) = hPos m c (topRow t p) k :=
  (pay19_apply _ _ _ _ p k).trans (hid_left m c t _ p _ (fun j => iblk0_apply m c t p j _ rfl) k)
theorem P16_apply (t : Fin cfg0.N) (p : Fin 200) (k : Fin 128) : P16 m c t (ix2 p k) = hNeg m c (topRow t p) k :=
  (pay20_apply _ _ _ _ p k).trans (hid_right m c t _ p _ (fun j => iblk0_apply m c t p j _ rfl) k)
theorem P17_apply (t : Fin cfg0.N) (p : Fin 200) (k : Fin 128) : P17 m c t (ix2 p k) = hPos m c (botRow t p) k :=
  (pay3_apply _ _ _ _ p k).trans (hid_left m c t _ p _ (fun j => iblk1_apply m c t p j _ rfl) k)
theorem P18_apply (t : Fin cfg0.N) (p : Fin 200) (k : Fin 128) : P18 m c t (ix2 p k) = hNeg m c (botRow t p) k :=
  (pay4_apply _ _ _ _ p k).trans (hid_right m c t _ p _ (fun j => iblk1_apply m c t p j _ rfl) k)

/-- Row `r` of a 5000-row block assembled from the points' top rows. -/
theorem Hof_top (P : Fin cfg0.N → Vec Ideal S200x128 .bf16) (H : Fin 10000 → Fin 128 → EReal)
    (hP : ∀ t p k, P t (ix2 p k) = H (topRow t p) k) (r : Fin 5000) (k : Fin 128) :
    Hof P (ix2 r k) = H ⟨r.val, by omega⟩ k := by
  refine (hP (pt (r.val / 200)) ⟨r.val % 200, Nat.mod_lt _ (by decide)⟩ k).trans (congrArg (fun x => H x k) (Fin.ext ?_))
  show 200 * (r.val / 200 % 25) + r.val % 200 = r.val
  omega

/-- Row `r` of one assembled from the bottom rows. -/
theorem Hof_bot (P : Fin cfg0.N → Vec Ideal S200x128 .bf16) (H : Fin 10000 → Fin 128 → EReal)
    (hP : ∀ t p k, P t (ix2 p k) = H (botRow t p) k) (r : Fin 5000) (k : Fin 128) :
    Hof P (ix2 r k) = H ⟨5000 + r.val, by omega⟩ k := by
  refine (hP (pt (r.val / 200)) ⟨r.val % 200, Nat.mod_lt _ (by decide)⟩ k).trans (congrArg (fun x => H x k) (Fin.ext ?_))
  show 5000 + (200 * (r.val / 200 % 25) + r.val % 200) = 5000 + r.val
  omega

/-- Feature `k`'s hidden value by the node's number, zero past the last node. -/
def col (k : Fin 128) (r : ℕ) : EReal := if h : r < 10000 then hPos m c ⟨r, h⟩ k else 0

theorem col_of_lt (k : Fin 128) (r : Fin 10000) : col m c k r.val = hPos m c r k := dif_pos r.isLt

/-- After `n` points the running sum holds the first `200 n` rows of either half. -/
theorem csum_apply (k : Fin 128) (n : ℕ) (hn : n ≤ 25) : csum m c n (ix2 (0 : Fin 1) k)
    = (∑ r ∈ Finset.range (200 * n), col m c k r) + ∑ r ∈ Finset.range (200 * n), col m c k (5000 + r) := by
  induction n with
  | zero =>
    refine (pay14_apply _).trans ?_
    simp
  | succ n ih =>
    have hv : (pt n).val = n := Nat.mod_eq_of_lt (by omega)
    refine (pay5_apply _ _ _ _ _ _ k).trans ?_
    rw [ih (by omega), Nat.mul_succ, Finset.sum_range_add, Finset.sum_range_add, add_assoc, add_add_add_comm]
    refine congrArg₂ (· + ·) (congrArg₂ (· + ·) rfl ?_) (congrArg₂ (· + ·) rfl ?_)
    · rw [Finset.sum_range]
      refine Finset.sum_congr rfl fun p _ => ?_
      refine (hid_left m c (pt n) _ p _ (fun j => iblk0_apply m c (pt n) p j (topRow (pt n) p) rfl) k).trans ?_
      rw [← col_of_lt]
      exact congrArg (col m c k) (by show 200 * (pt n).val + p.val = _; rw [hv])
    · rw [Finset.sum_range]
      refine Finset.sum_congr rfl fun p _ => ?_
      refine (hid_left m c (pt n) _ p _ (fun j => iblk1_apply m c (pt n) p j (botRow (pt n) p) rfl) k).trans ?_
      rw [← col_of_lt]
      exact congrArg (col m c k) (by show 5000 + (200 * (pt n).val + p.val) = _; rw [hv])

/-- After the last point the running sum is the sum over all nodes. -/
theorem csum_total (k : Fin 128) : csum m c 25 (ix2 (0 : Fin 1) k) = ∑ r : Fin 10000, hPos m c r k := by
  rw [csum_apply m c k 25 le_rfl, ← Finset.sum_range_add (col m c k) 5000 5000, Finset.sum_range]
  exact Finset.sum_congr rfl fun r _ => col_of_lt m c k r

/-- A score column from any assembled hidden block, at a row that holds node `r`'s hidden values. -/
theorem score_apply (t : Fin cfg0.N) (h : Vec Ideal S5000x128 .bf16) (q : Fin 5000) (H : Fin 128 → EReal)
    (hh : ∀ k, h (ix2 q k) = H k) :
    k0_pay8 (F := Ideal) (csum m c 25) (iblk m c 7 t) (iblk m c 8 t) h (ix2 q (0 : Fin 1))
      = scoreK (gate (hPos m c)) (aD m c) (aE m c) H := by
  refine (pay8_apply _ _ _ h q).trans ?_
  rw [iblk8_apply]
  unfold scoreK gate
  simp only [hh, csum_total, iblk7_apply]
  rfl

end Cert.KernelIdeal.Hand

end
-- ==== Proof.KOut.lean ====
module

public import proofs.«01_k».proof.Proof.KRun
public import proofs.«01_k».proof.Proof.KClosed

@[expose] public section

set_option maxRecDepth 16384

noncomputable section

namespace Cert.KernelIdeal.Hand

open Cert.KernelIdeal.Gen Cert.Dgi
open Idealize.ShloMosaic Idealize.ShloMosaic.TcCoe Idealize.ShloMosaic.Tactic Idealize.ShloMosaic.ValueIdx
open Idealize.SL.Sem
open Idealize.ShloMosaic.Pipeline (Dat)
open scoped BigOperators

variable {F : FTy → Type} [FloatOps F] [Named F]
variable (m : (ℓ : Loc nD τ sig) → Buf (Elt F) ℓ) (c : Dev nD)

/-! ## What the four result arrays of the launch hold: each is written back once, whole, at the last point -/

/-- The last point of the grid. -/
def t24 : Fin cfg0.N := pt 24

/-- A point number that is 24 modulo 25 is the last point's. -/
theorem eq_t24 (t : Fin cfg0.N) (h : t.val % 25 = 24) : t = t24 := by
  have ht : t.val < 25 := lt_of_lt_of_eq t.isLt N25
  exact Fin.ext (by show t.val = 24 % 25; omega)

/-- An index of a 5000×1 array lies in the rectangle that starts at zero and has the array's extents. -/
theorem mem_col (i : S5000x1.Idx) (o z : Fin 2 → ℕ) (ho : ∀ a, o a = 0) (h0 : z 0 = 5000) (h1 : z 1 = 1) (a : Fin 2) :
    o a ≤ (i a).val ∧ (i a).val < o a + z a := by
  rw [ho]
  match a with
  | ⟨0, _⟩ => exact ⟨Nat.zero_le _, by have := (i (0 : Fin 2)).isLt; show (i (0 : Fin 2)).val < 0 + z 0; rw [h0, Nat.zero_add]; exact this⟩
  | ⟨1, _⟩ => exact ⟨Nat.zero_le _, by have := (i (1 : Fin 2)).isLt; show (i (1 : Fin 2)).val < 0 + z 1; rw [h1, Nat.zero_add]; exact this⟩

/-- Window 9's write-back writes the positive scores of the top half. -/
theorem flushed9 (t : Fin cfg0.N) (hf : (cfg0.win 9).flush t = true) :
    (dats m 0 c).flushed 9 t = ((cfg0.win 9).blk t).view.read (Elt F) (out9 m c t24) := by
  obtain rfl := eq_t24 t ((flush0_9 t).mp hf)
  show (cfg0.win 9).cut (grid0.coords t24) ((dats m 0 c).after 9 t24) = _
  rw [after0_9]
  have hz : (fun a => win0_9.index t24 a * main_v8_0.ty.shape.size a) = fun _ => 0 := funext fun a => by fin_cases a <;> decide +kernel
  exact (Memref.read_access_unit_zero (Elt F) main_v8_0 hz (fun a => by rw [congrFun hz a]; simp) (out9 m c t24)).symm

/-- So its array ends at them. -/
theorem final9 : (dats m 0 c).arrAt 9 cfg0.N = out9 m c t24 :=
  (dats m 0 c).arrAt_eq_of_cover 9 (out9 m c t24) (flushed9 m c) fun i =>
    ⟨t24, (flush0_9 _).mpr rfl, by
      show i ∈ ((View.whole main_v8_0).slice (win0_9.rect t24)).set
      rw [View.set_slice_whole, Rect.mem_set_unit]
      exact mem_col i (fun a => win0_9.index t24 a * win0_9.size a) (fun a => win0_9.xsize (grid0.coords t24) a)
        (fun a => by fin_cases a <;> decide +kernel) (by decide +kernel) (by decide +kernel)⟩

/-- Window 10's write-back writes the positive scores of the bottom half. -/
theorem flushed10 (t : Fin cfg0.N) (hf : (cfg0.win 10).flush t = true) :
    (dats m 0 c).flushed 10 t = ((cfg0.win 10).blk t).view.read (Elt F) (out10 m c t24) := by
  obtain rfl := eq_t24 t ((flush0_10 t).mp hf)
  show (cfg0.win 10).cut (grid0.coords t24) ((dats m 0 c).after 10 t24) = _
  rw [after0_10]
  have hz : (fun a => win0_10.index t24 a * main_v8_1.ty.shape.size a) = fun _ => 0 := funext fun a => by fin_cases a <;> decide +kernel
  exact (Memref.read_access_unit_zero (Elt F) main_v8_1 hz (fun a => by rw [congrFun hz a]; simp) (out10 m c t24)).symm

/-- So its array ends at them. -/
theorem final10 : (dats m 0 c).arrAt 10 cfg0.N = out10 m c t24 :=
  (dats m 0 c).arrAt_eq_of_cover 10 (out10 m c t24) (flushed10 m c) fun i =>
    ⟨t24, (flush0_10 _).mpr rfl, by
      show i ∈ ((View.whole main_v8_1).slice (win0_10.rect t24)).set
      rw [View.set_slice_whole, Rect.mem_set_unit]
      exact mem_col i (fun a => win0_10.index t24 a * win0_10.size a) (fun a => win0_10.xsize (grid0.coords t24) a)
        (fun a => by fin_cases a <;> decide +kernel) (by decide +kernel) (by decide +kernel)⟩

/-- Window 11's write-back writes the negative scores of the top half. -/
theorem flushed11 (t : Fin cfg0.N) (hf : (cfg0.win 11).flush t = true) :
    (dats m 0 c).flushed 11 t = ((cfg0.win 11).blk t).view.read (Elt F) (out11 m c t24) := by
  obtain rfl := eq_t24 t ((flush0_11 t).mp hf)
  show (cfg0.win 11).cut (grid0.coords t24) ((dats m 0 c).after 11 t24) = _
  rw [after0_11]
  have hz : (fun a => win0_11.index t24 a * main_v8_2.ty.shape.size a) = fun _ => 0 := funext fun a => by fin_cases a <;> decide +kernel
  exact (Memref.read_access_unit_zero (Elt F) main_v8_2 hz (fun a => by rw [congrFun hz a]; simp) (out11 m c t24)).symm

/-- So its array ends at them. -/
theorem final11 : (dats m 0 c).arrAt 11 cfg0.N = out11 m c t24 :=
  (dats m 0 c).arrAt_eq_of_cover 11 (out11 m c t24) (flushed11 m c) fun i =>
    ⟨t24, (flush0_11 _).mpr rfl, by
      show i ∈ ((View.whole main_v8_2).slice (win0_11.rect t24)).set
      rw [View.set_slice_whole, Rect.mem_set_unit]
      exact mem_col i (fun a => win0_11.index t24 a * win0_11.size a) (fun a => win0_11.xsize (grid0.coords t24) a)
        (fun a => by fin_cases a <;> decide +kernel) (by decide +kernel) (by decide +kernel)⟩

/-- Window 12's write-back writes the negative scores of the bottom half. -/
theorem flushed12 (t : Fin cfg0.N) (hf : (cfg0.win 12).flush t = true) :
    (dats m 0 c).flushed 12 t = ((cfg0.win 12).blk t).view.read (Elt F) (out12 m c t24) := by
  obtain rfl := eq_t24 t ((flush0_12 t).mp hf)
  show (cfg0.win 12).cut (grid0.coords t24) ((dats m 0 c).after 12 t24) = _
  rw [after0_12]
  have hz : (fun a => win0_12.index t24 a * main_v8_3.ty.shape.size a) = fun _ => 0 := funext fun a => by fin_cases a <;> decide +kernel
  exact (Memref.read_access_unit_zero (Elt F) main_v8_3 hz (fun a => by rw [congrFun hz a]; simp) (out12 m c t24)).symm

/-- So its array ends at them. -/
theorem final12 : (dats m 0 c).arrAt 12 cfg0.N = out12 m c t24 :=
  (dats m 0 c).arrAt_eq_of_cover 12 (out12 m c t24) (flushed12 m c) fun i =>
    ⟨t24, (flush0_12 _).mpr rfl, by
      show i ∈ ((View.whole main_v8_3).slice (win0_12.rect t24)).set
      rw [View.set_slice_whole, Rect.mem_set_unit]
      exact mem_col i (fun a => win0_12.index t24 a * win0_12.size a) (fun a => win0_12.xsize (grid0.coords t24) a)
        (fun a => by fin_cases a <;> decide +kernel) (by decide +kernel) (by decide +kernel)⟩

/-- The four columns as rows, one after the other. -/
def joined (x0 x1 x2 x3 : Vec F S5000x1 .f32) : Vec F S1x20000 .f32 :=
  concatenate S1x20000 1 [⟨S1x5000, shapeCast S1x5000 x0 shapeCasts_S5000x1_S1x5000⟩, ⟨S1x5000, shapeCast S1x5000 x1 shapeCasts_S5000x1_S1x5000⟩,
    ⟨S1x5000, shapeCast S1x5000 x2 shapeCasts_S5000x1_S1x5000⟩, ⟨S1x5000, shapeCast S1x5000 x3 shapeCasts_S5000x1_S1x5000⟩]
    concatenates_S1x5000_S1x5000_S1x5000_S1x5000_S1x20000_d1

/-- The lines after the launch leave the result array at the four columns joined. -/
theorem tail_v13 : Pipeline.afterTail₀ cfgs (dats m) 0 (V0 m) [hostOps1] c main_v13
    = joined (out9 m c t24) (out10 m c t24) (out11 m c t24) (out12 m c t24) := by
  have h := (dats m 0 c).withArrays_arrAt sharedIn0 (V0 m c) (A_eq m c)
  have h9 := (h 9).trans (final9 m c)
  have h10 := (h 10).trans (final10 m c)
  have h11 := (h 11).trans (final11 m c)
  have h12 := (h 12).trans (final12 m c)
  show StableHlo.after hostOps1 (Pipeline.withArrays (cfgs 0).spec c (V0 m c) fun w => (dats m 0 c).arrAt w (cfgs 0).N) (Proc.devRef .tc main_v13) = _
  unfold hostOps1
  after_results
  unfold joined
  rw [← h9, ← h10, ← h11, ← h12]
  rfl

/-- Every run ends with the result array at the four columns joined and the arguments as launched. -/
theorem run_value (ρ : Dev nD → PrngReg) : θ_run defs (onTc (τ := τ) (main (F := F))) ⟨m, fun _ => 0, ρ⟩ (fun r => ∀ c : Dev nD,
      r.2.mem ((c.tc : Thread nD τ).loc main_v13) = joined (out9 m c t24) (out10 m c t24) (out11 m c t24) (out12 m c t24)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).2 main_v13 (Pipeline.mem_restRefs_of main_v13 (by decide) (by decide))).trans (tail_v13 m c), h.2.1 c⟩)
    (θ_run_and (run_post m ρ) (frame m ρ))

end Cert.KernelIdeal.Hand

end
-- ==== Proof.RefVal.lean ====
module

public import proofs.«01_k».proof.Proof.Gen.ReferenceIdeal.Read
public import proofs.«01_k».proof.Proof.Math
public import Idealize.ShloMosaic.Lib.Pipeline.Value

@[expose] public section

set_option maxRecDepth 16384

noncomputable section

namespace Cert.ReferenceIdeal.Hand

open Cert.ReferenceIdeal Cert.ReferenceIdeal.Gen Cert.ReferenceIdeal.Read Cert.Dgi
open Idealize.ShloMosaic Idealize.ShloMosaic.TcCoe Idealize.ShloMosaic.ValueIdx
open scoped BigOperators

/-! The reference's arrays in closed form, from its eight arguments. -/

variable (x0 x1 : (⟨S1x10000x128, .f32⟩ : BufTy).Contents (Elt Ideal)) (x2 : (⟨S1x10000x10000, .f32⟩ : BufTy).Contents (Elt Ideal))
  (x3 : (⟨S128x128, .f32⟩ : BufTy).Contents (Elt Ideal)) (x4 : (⟨S128, .f32⟩ : BufTy).Contents (Elt Ideal))
  (x5 : (⟨S_, .f32⟩ : BufTy).Contents (Elt Ideal)) (x6 : (⟨S128x128, .f32⟩ : BufTy).Contents (Elt Ideal))
  (x7 : (⟨S1, .f32⟩ : BufTy).Contents (Elt Ideal))

/-- The hidden array of features `x`, from the arguments. -/
def rHid (x : (⟨S1x10000x128, .f32⟩ : BufTy).Contents (Elt Ideal)) : Fin 10000 → Fin 128 → EReal :=
  hid (fun j i => x (ix3 (0 : Fin 1) j i)) (fun r j => x2 (ix3 (0 : Fin 1) r j)) (fun i k => x3 (ix2 i k)) (fun k => x4 (ix1 k)) (x5 ix0)

/-- The reference's hidden array of the features. -/
theorem v9_apply (r : Fin 10000) (k : Fin 128) :
    val_main_v9 (F := Ideal) x0 x2 x3 x4 x5 (ix3 (0 : Fin 1) r k) = rHid x2 x3 x4 x5 x0 r k := by
  rw [val_main_v9_apply, val_main_v6_apply, val_main_v8_apply, val_main_v4_apply, val_main_v1_apply, val_main_v3_apply, val_main_v2_apply,
    val_main_v5_apply, val_main_cst_apply, val_main_v7_apply]
  simp only [val_main_v0_apply]
  have h0 : (FloatOps.ofBits .f32 0x00000000#32 : Ideal .f32) = (0 : EReal) := Ideal.ofBits_zero_f32
  rw [h0]
  unfold rHid hid prelu
  have el : ∀ j : Fin 10000, lidx_main_v1 (ix3 (0 : Fin 1) r k) j = ix3 (0 : Fin 1) r j := fun j => eq_ix3 _
  have er : ∀ (j : Fin 10000) (i : Fin 128), lidx_main_v0 (ridx_main_v1 (ix3 (0 : Fin 1) r k) j) i = ix3 (0 : Fin 1) j i := fun j i => eq_ix3 _
  have ew : ∀ (j : Fin 10000) (i : Fin 128), ridx_main_v0 (ridx_main_v1 (ix3 (0 : Fin 1) r k) j) i = ix2 i k := fun j i => eq_ix2 _
  have eb : idx_main_v2 (idx_main_v3 (ix3 (0 : Fin 1) r k)) = ix1 k := eq_ix1 _
  have ea : idx_main_v7 (ix3 (0 : Fin 1) r k) = ix0 := eq_ix0 _
  simp only [el, er, ew, eb, ea]
  rfl

/-- The reference computes the shuffled features' arrays by the same operations. -/
theorem v28_eq : val_main_v28 (F := Ideal) x1 x2 x3 x4 x5 = val_main_v9 (F := Ideal) x1 x2 x3 x4 x5 := rfl

/-- The reference's summary. -/
theorem v18_apply (k : Fin 128) :
    val_main_v18 (F := Ideal) x0 x2 x3 x4 x5 (ix2 (0 : Fin 1) k) = gate (rHid x2 x3 x4 x5 x0) k := by
  rw [val_main_v18_apply, val_main_v17_apply, val_main_v16_apply, val_main_v15_apply, val_main_v14_apply, val_main_v13_apply,
    val_main_v12_apply, val_main_v11_apply, val_main_v10_apply, val_main_cst_0_apply, val_main_cst_1_apply, val_main_cst_2_apply,
    val_main_cst_3_apply]
  have e : ∀ r : Fin 10000, idx_main_v10 (ix2 (0 : Fin 1) k) r = ix3 (0 : Fin 1) r k := fun r => eq_ix3 _
  simp only [e, v9_apply]
  have h0 : (FloatOps.ofBits .f32 0x00000000#32 : Ideal .f32) = (0 : EReal) := Ideal.ofBits_zero_f32
  have h1 : (FloatOps.ofBits .f32 0x3F800000#32 : Ideal .f32) = (1 : EReal) := ofBits_one'
  have hn : (FloatOps.ofBits .f32 0x461C4000#32 : Ideal .f32) = ((10000 : ℝ) : EReal) := ofBits_tenthousand
  rw [h0, h1, hn, zero_add]
  unfold gate
  rw [← div_tenthousand]
  rfl

/-- A positive score of the reference. -/
theorem v35_apply (r : Fin 10000) :
    val_main_v35 (F := Ideal) x0 x2 x3 x4 x5 x6 x7 (ix2 (0 : Fin 1) r)
      = scoreR (gate (rHid x2 x3 x4 x5 x0)) (fun k j => x6 (ix2 k j)) (x7 (ix1 (0 : Fin 1))) (fun k => rHid x2 x3 x4 x5 x0 r k) := by
  rw [val_main_v35_apply, val_main_v34_apply, val_main_v33_apply, val_main_v32_apply]
  simp only [val_main_v30_apply, val_main_v29_apply, val_main_v31_apply]
  have eg : ∀ j : Fin 128, idx_main_v29 (idx_main_v30 (lidx_main_v32 (ix2 (0 : Fin 1) r) j)) = ix2 (0 : Fin 1) j := fun j => eq_ix2 _
  have ed : ∀ j k : Fin 128, lidx_main_v31 (ridx_main_v32 (ix2 (0 : Fin 1) r) j) k = ix2 k j := fun j k => eq_ix2 _
  have eh : ∀ j k : Fin 128, ridx_main_v31 (ridx_main_v32 (ix2 (0 : Fin 1) r) j) k = ix3 (0 : Fin 1) r k := fun j k => eq_ix3 _
  have eb : idx_main_v33 (idx_main_v34 (ix2 (0 : Fin 1) r)) = ix1 (0 : Fin 1) := eq_ix1 _
  simp only [eg, ed, eh, eb, v18_apply, v9_apply]
  rfl

/-- A negative score of the reference. -/
theorem v40_apply (r : Fin 10000) :
    val_main_v40 (F := Ideal) x0 x1 x2 x3 x4 x5 x6 x7 (ix2 (0 : Fin 1) r)
      = scoreR (gate (rHid x2 x3 x4 x5 x0)) (fun k j => x6 (ix2 k j)) (x7 (ix1 (0 : Fin 1))) (fun k => rHid x2 x3 x4 x5 x1 r k) := by
  rw [val_main_v40_apply, val_main_v39_apply, val_main_v38_apply, val_main_v37_apply]
  simp only [val_main_v30_apply, val_main_v29_apply, val_main_v36_apply, v28_eq]
  have eg : ∀ j : Fin 128, idx_main_v29 (idx_main_v30 (lidx_main_v37 (ix2 (0 : Fin 1) r) j)) = ix2 (0 : Fin 1) j := fun j => eq_ix2 _
  have ed : ∀ j k : Fin 128, lidx_main_v36 (ridx_main_v37 (ix2 (0 : Fin 1) r) j) k = ix2 k j := fun j k => eq_ix2 _
  have eh : ∀ j k : Fin 128, ridx_main_v36 (ridx_main_v37 (ix2 (0 : Fin 1) r) j) k = ix3 (0 : Fin 1) r k := fun j k => eq_ix3 _
  have eb : idx_main_v38 (idx_main_v39 (ix2 (0 : Fin 1) r)) = ix1 (0 : Fin 1) := eq_ix1 _
  simp only [eg, ed, eh, eb, v18_apply, v9_apply]
  rfl

/-- The result's first ten thousand entries are the positive scores, -/
theorem v41_left (r : Fin 10000) :
    val_main_v41 (F := Ideal) x0 x1 x2 x3 x4 x5 x6 x7 (ix2 (0 : Fin 1) (⟨r.val, by omega⟩ : Fin 20000))
      = val_main_v35 (F := Ideal) x0 x2 x3 x4 x5 x6 x7 (ix2 (0 : Fin 1) r) := by
  unfold val_main_v41
  exact concatenate_pair_apply_left (t := S1x20000) (s₁ := S1x10000) (s₂ := S1x10000) 1 _ _ _ _ rfl (ix2 (0 : Fin 1) r)
    (fun b => match b with | ⟨0, _⟩ => rfl | ⟨1, _⟩ => rfl)

/-- the others the negative ones. -/
theorem v41_right (r : Fin 10000) :
    val_main_v41 (F := Ideal) x0 x1 x2 x3 x4 x5 x6 x7 (ix2 (0 : Fin 1) (⟨10000 + r.val, by omega⟩ : Fin 20000))
      = val_main_v40 (F := Ideal) x0 x1 x2 x3 x4 x5 x6 x7 (ix2 (0 : Fin 1) r) := by
  unfold val_main_v41
  exact concatenate_pair_apply_right (t := S1x20000) (s₁ := S1x10000) (s₂ := S1x10000) 1 _ _ _ _ rfl rfl (ix2 (0 : Fin 1) r)
    (fun b => match b with | ⟨0, _⟩ => fun _ => rfl | ⟨1, _⟩ => fun h => absurd rfl h) (Nat.add_comm r.val 10000)

end Cert.ReferenceIdeal.Hand

end
-- ==== Proof.Equation.lean ====
module

public import proofs.«01_k».proof.Proof.KClosed
public import proofs.«01_k».proof.Proof.KOut
public import proofs.«01_k».proof.Proof.RefVal

@[expose] public section

set_option maxRecDepth 16384

noncomputable section

namespace Cert.KernelIdeal.Hand

open Cert.KernelIdeal.Gen Cert.Dgi
open Idealize.ShloMosaic Idealize.ShloMosaic.TcCoe Idealize.ShloMosaic.Tactic Idealize.ShloMosaic.ValueIdx
open Idealize.SL.Sem
open scoped BigOperators

/-! The kernel's joined result is the reference's, entry by entry. -/

/-- A column recast as a row keeps its entries in order. -/
theorem row_apply (x : Vec Ideal S5000x1 .f32) (q : Fin 5000) :
    shapeCast S1x5000 x shapeCasts_S5000x1_S1x5000 (ix2 (0 : Fin 1) q) = x (ix2 q (0 : Fin 1)) := by
  refine shapeCast_apply x _ _ _ ?_
  rw [Shape.rowMajor_val_two, Shape.rowMajor_val_two]
  show q.val * 1 + 0 = 0 * 5000 + q.val
  omega

variable (x0 x1 x2 x3 : Vec Ideal S5000x1 .f32) (q : Fin 5000)

/-- The first quarter of the joined row is the first column, -/
theorem joined_0 : joined x0 x1 x2 x3 (ix2 (0 : Fin 1) (⟨q.val, by omega⟩ : Fin 20000)) = x0 (ix2 q (0 : Fin 1)) :=
  (concatenate_apply_piece (t := S1x20000) 1 _ _ _ 0 (by simp) S1x5000 _ rfl rfl 0 rfl (ix2 (0 : Fin 1) q)
    (fun b => match b with | ⟨0, _⟩ => fun _ => rfl | ⟨1, _⟩ => fun h => absurd rfl h) (Nat.zero_add _)).trans (row_apply x0 q)

/-- the second the second, -/
theorem joined_1 : joined x0 x1 x2 x3 (ix2 (0 : Fin 1) (⟨5000 + q.val, by omega⟩ : Fin 20000)) = x1 (ix2 q (0 : Fin 1)) :=
  (concatenate_apply_piece (t := S1x20000) 1 _ _ _ 1 (by simp) S1x5000 _ rfl rfl 5000 rfl (ix2 (0 : Fin 1) q)
    (fun b => match b with | ⟨0, _⟩ => fun _ => rfl | ⟨1, _⟩ => fun h => absurd rfl h) rfl).trans (row_apply x1 q)

/-- the third the third, -/
theorem joined_2 : joined x0 x1 x2 x3 (ix2 (0 : Fin 1) (⟨10000 + q.val, by omega⟩ : Fin 20000)) = x2 (ix2 q (0 : Fin 1)) :=
  (concatenate_apply_piece (t := S1x20000) 1 _ _ _ 2 (by simp) S1x5000 _ rfl rfl 10000 rfl (ix2 (0 : Fin 1) q)
    (fun b => match b with | ⟨0, _⟩ => fun _ => rfl | ⟨1, _⟩ => fun h => absurd rfl h) rfl).trans (row_apply x2 q)

/-- and the last the fourth. -/
theorem joined_3 : joined x0 x1 x2 x3 (ix2 (0 : Fin 1) (⟨15000 + q.val, by omega⟩ : Fin 20000)) = x3 (ix2 q (0 : Fin 1)) :=
  (concatenate_apply_piece (t := S1x20000) 1 _ _ _ 3 (by simp) S1x5000 _ rfl rfl 15000 rfl (ix2 (0 : Fin 1) q)
    (fun b => match b with | ⟨0, _⟩ => fun _ => rfl | ⟨1, _⟩ => fun h => absurd rfl h) rfl).trans (row_apply x3 q)

/-- A row of the second half is a row. -/
theorem half_lt (q : Fin 5000) : 5000 + q.val < 10000 := by omega
/-- A negative score's place is a place of the result. -/
theorem whole_lt (r : Fin 10000) : 10000 + r.val < 20000 := by omega
/-- A row not in the first half is a row of the second. -/
theorem exists_half (r : Fin 10000) (h : 5000 ≤ r.val) : ∃ q : Fin 5000, r = ⟨5000 + q.val, half_lt q⟩ :=
  ⟨⟨r.val - 5000, by omega⟩, Fin.ext (by show r.val = 5000 + (r.val - 5000); omega)⟩
/-- A place not among the positive scores is among the negative ones. -/
theorem exists_whole (n : Fin 20000) (h : 10000 ≤ n.val) : ∃ r : Fin 10000, n = ⟨10000 + r.val, whole_lt r⟩ :=
  ⟨⟨n.val - 10000, by omega⟩, Fin.ext (by show n.val = 10000 + (n.val - 10000); omega)⟩

variable (m : (ℓ : Loc nD τ sig) → Buf (Elt Ideal) ℓ) (c : Dev nD)

/-- The score of a node with hidden values `H`, the summary's weights applied first. -/
def kScore (H : Fin 128 → EReal) : EReal := scoreK (gate (hPos m c)) (aD m c) (aE m c) H

/-- The first output column holds the positive scores of the first half of the nodes, -/
theorem out9_apply (t : Fin cfg0.N) : out9 m c t (ix2 q (0 : Fin 1)) = kScore m c (hPos m c ⟨q.val, by omega⟩) :=
  score_apply m c t _ q _ fun k => Hof_top _ _ (P15_apply m c) q k
/-- the second those of the second half, -/
theorem out10_apply (t : Fin cfg0.N) : out10 m c t (ix2 q (0 : Fin 1)) = kScore m c (hPos m c ⟨5000 + q.val, by omega⟩) :=
  (congrFun (pay9_eq _ _ _ _) _).trans (score_apply m c t _ q _ fun k => Hof_bot _ _ (P17_apply m c) q k)
/-- the third the negative scores of the first half, -/
theorem out11_apply (t : Fin cfg0.N) : out11 m c t (ix2 q (0 : Fin 1)) = kScore m c (hNeg m c ⟨q.val, by omega⟩) :=
  (congrFun (pay10_eq _ _ _ _) _).trans (score_apply m c t _ q _ fun k => Hof_top _ _ (P16_apply m c) q k)
/-- and the fourth those of the second half. -/
theorem out12_apply (t : Fin cfg0.N) : out12 m c t (ix2 q (0 : Fin 1)) = kScore m c (hNeg m c ⟨5000 + q.val, by omega⟩) :=
  (congrFun (pay11_eq _ _ _ _) _).trans (score_apply m c t _ q _ fun k => Hof_bot _ _ (P18_apply m c) q k)

/-- The kernel's result. -/
def kOut : Vec Ideal S1x20000 .f32 := joined (out9 m c t24) (out10 m c t24) (out11 m c t24) (out12 m c t24)

/-- The first ten thousand entries of the kernel's result are the nodes' positive scores, -/
theorem kOut_pos (r : Fin 10000) : kOut m c (ix2 (0 : Fin 1) (⟨r.val, by omega⟩ : Fin 20000)) = kScore m c (hPos m c r) := by
  by_cases h : r.val < 5000
  · exact (joined_0 _ _ _ _ ⟨r.val, h⟩).trans (out9_apply ⟨r.val, h⟩ m c t24)
  · obtain ⟨q, rfl⟩ : ∃ q : Fin 5000, r = ⟨5000 + q.val, half_lt q⟩ := exists_half r (Nat.le_of_not_lt h)
    exact (joined_1 _ _ _ _ q).trans (out10_apply q m c t24)

/-- the others the negative ones. -/
theorem kOut_neg (r : Fin 10000) :
    kOut m c (ix2 (0 : Fin 1) (⟨10000 + r.val, by omega⟩ : Fin 20000)) = kScore m c (hNeg m c r) := by
  by_cases h : r.val < 5000
  · exact (joined_2 _ _ _ _ ⟨r.val, h⟩).trans (out11_apply ⟨r.val, h⟩ m c t24)
  · obtain ⟨q, rfl⟩ : ∃ q : Fin 5000, r = ⟨5000 + q.val, half_lt q⟩ := exists_half r (Nat.le_of_not_lt h)
    have e : (ix2 (0 : Fin 1) (⟨10000 + (5000 + q.val), by omega⟩ : Fin 20000) : S1x20000.Idx)
        = ix2 (0 : Fin 1) (⟨15000 + q.val, by omega⟩ : Fin 20000) := congrArg (ix2 (0 : Fin 1)) (Fin.ext (by show 10000 + (5000 + q.val) = 15000 + q.val; omega))
    exact (congrArg (kOut m c) e).trans ((joined_3 _ _ _ _ q).trans (out12_apply q m c t24))

/-- When the arrays but the last are real, the kernel's result is the reference's result of the same arguments. -/
theorem kOut_eq (hX : ∀ j i, IsReal (aX m c j i)) (hN : ∀ j i, IsReal (aN m c j i)) (hA : ∀ r j, IsReal (aA m c r j))
    (hW : ∀ i k, IsReal (aW m c i k)) (hb : ∀ k, IsReal (aB m c k)) (ha : IsReal (aS m c)) (hD : ∀ k j, IsReal (aD m c k j)) :
    kOut m c = Cert.ReferenceIdeal.Read.val_main_v41 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  have hP : ∀ r k, IsReal (hPos m c r k) := hid_fin hX hA hW hb ha
  have hQ : ∀ r k, IsReal (hNeg m c r k) := hid_fin hN hA hW hb ha
  funext j
  obtain ⟨n, rfl⟩ : ∃ n : Fin 20000, j = ix2 (0 : Fin 1) n :=
    ⟨j (1 : Fin 2), (eq_ix2 j).trans (congrArg (fun z => ix2 z (j (1 : Fin 2))) (Subsingleton.elim (α := Fin 1) _ _))⟩
  by_cases h : n.val < 10000
  · exact (kOut_pos m c ⟨n.val, h⟩).trans ((score_eq _ (gate_fin hP) hD (hP _)).trans
      ((Cert.ReferenceIdeal.Hand.v41_left _ _ _ _ _ _ _ _ ⟨n.val, h⟩).trans
        (Cert.ReferenceIdeal.Hand.v35_apply _ _ _ _ _ _ _ ⟨n.val, h⟩)).symm)
  · obtain ⟨r, rfl⟩ : ∃ r : Fin 10000, n = ⟨10000 + r.val, whole_lt r⟩ := exists_whole n (Nat.le_of_not_lt h)
    exact (kOut_neg m c r).trans ((score_eq _ (gate_fin hP) hD (hQ _)).trans
      ((Cert.ReferenceIdeal.Hand.v41_right _ _ _ _ _ _ _ _ r).trans
        (Cert.ReferenceIdeal.Hand.v40_apply _ _ _ _ _ _ _ _ r)).symm)

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_inputs_finite
public import proofs.«01_k».proof.Proof.KRun
public import proofs.«01_k».proof.Proof.KFrame
public import proofs.«01_k».proof.Proof.Pre
public import proofs.«01_k».proof.Proof.Equation

@[expose] public section

noncomputable section

namespace Cert.Proof

open Idealize.ShloMosaic Idealize.ShloMosaic.TcCoe Idealize.ShloMosaic.ValueIdx Idealize.SL.Sem

/-- The kernel with exact arithmetic runs to completion, keeps its arguments and leaves every semaphore at zero. -/
theorem ideal_frame : Cert.quiescent_KernelIdeal (hKernelIdeal := Cert.KernelIdeal.Gen.facts) :=
  fun m ρ _ => Cert.KernelIdeal.Hand.frame (F := Ideal) m ρ

/-- So it does when the precondition holds. -/
theorem ideal_frame_pre : Cert.quiescent_KernelIdeal_pre_inputs_finite (hKernelIdeal := Cert.KernelIdeal.Gen.facts)
    (hPre_inputs_finite := Cert.Pre_inputs_finite.Gen.facts) :=
  fun m ρ _ => Cert.KernelIdeal.Hand.frame (F := Ideal) m ρ

/-- The reference runs to completion and keeps its arguments; it declares no semaphore. -/
theorem ref_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does when the precondition holds. -/
theorem ref_frame_pre : Cert.quiescent_ReferenceIdeal_pre_inputs_finite (hReferenceIdeal := Cert.ReferenceIdeal.Gen.facts)
    (hPre_inputs_finite := Cert.Pre_inputs_finite.Gen.facts) :=
  fun m ρ _ => ref_frame m ρ trivial

/-- The constant printed as the word 0x38D1B717 is named, and the name stands for one ten-thousandth. -/
theorem named : Cert.preserves_Kernel_KernelIdeal :=
  IdealRules.named_const.statement Cert.KernelIdeal.κ "inv_n" .f32 0x38D1B717#32 _ rfl

/-- Under the precondition the kernel's result is the reference's result of the kernel's arguments. -/
theorem value_eq (m : (ℓ : Loc Cert.KernelIdeal.nD Cert.KernelIdeal.τ Cert.KernelIdeal.sig) → Buf (Elt Ideal) ℓ)
    (hp : Cert.Pre_KernelIdeal_inputs_finite (hPre_inputs_finite := Cert.Pre_inputs_finite.Gen.facts) m)
    (c : Dev Cert.KernelIdeal.nD) :
    Cert.KernelIdeal.Hand.kOut m c = Cert.ReferenceIdeal.Read.val_main_v41 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) := by
  obtain ⟨h0, h1, h2, h3, h4, h5, h6⟩ := Cert.Pre_inputs_finite.Hand.real_of_pre _ _ _ _ _ _ _ _ (congrFun (hp c) ix0)
  exact Cert.KernelIdeal.Hand.kOut_eq m c (fun _ _ => h0 _) (fun _ _ => h1 _) (fun _ _ => h2 _) (fun _ _ => h3 _)
    (fun _ => h4 _) (h5 _) (fun _ _ => h6 _)

/-- From memories that agree on the arguments, with the precondition, the kernel and the reference end with equal results. -/
theorem value : Cert.algebraic_KernelIdeal_ReferenceIdeal_pre_inputs_finite (hKernelIdeal := Cert.KernelIdeal.Gen.facts)
    (hReferenceIdeal := Cert.ReferenceIdeal.Gen.facts) (hPre_inputs_finite := Cert.Pre_inputs_finite.Gen.facts) := by
  intro m g m' g' hp hag
  refine ⟨fun c => Cert.KernelIdeal.Hand.kOut m c, Cert.KernelIdeal.Hand.run_value (F := Ideal) m g, ?_⟩
  refine (θ_run Cert.ReferenceIdeal.defs _ _).mono (fun r h c => ⟨(h c).1.trans ?_, (h c).2⟩)
    (Cert.ReferenceIdeal.Value.run (F := Ideal) m' g')
  obtain ⟨e0, e1, e2, e3, e4, e5, e6, e7⟩ := hag c
  refine (Cert.ReferenceIdeal.Read.val_main_v41_eq m' c).trans ?_
  rw [e0, e1, e2, e3, e4, e5, e6, e7]
  exact (value_eq m hp c).symm

/-- Everything claimed. -/
theorem claim : Cert.Claim :=
  ⟨Cert.Kernel.Gen.facts, Cert.KernelIdeal.Gen.facts, Cert.ReferenceIdeal.Gen.facts, Cert.Pre_inputs_finite.Gen.facts,
    kernel_frame, ideal_frame, ideal_frame_pre, ref_frame, ref_frame_pre, named, value⟩

end Cert.Proof

end
